-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x768 : Shape := ⟨3, ![4, 4096, 768]⟩
abbrev S768x768 : Shape := ⟨2, ![768, 768]⟩
abbrev S768 : Shape := ⟨1, ![768]⟩
abbrev S16384x768 : Shape := ⟨2, ![16384, 768]⟩
abbrev S1x768 : Shape := ⟨2, ![1, 768]⟩
abbrev S4x2048x768 : Shape := ⟨3, ![4, 2048, 768]⟩
abbrev S4 : Shape := ⟨1, ![4]⟩
abbrev S1 : Shape := ⟨1, ![1]⟩
abbrev S_ : Shape := ⟨0, ![]⟩
abbrev S1x2048x768 : Shape := ⟨3, ![1, 2048, 768]⟩
abbrev S2048x768 : Shape := ⟨2, ![2048, 768]⟩

abbrev nBuf : Space → Nat
  | .hbm => 7
  | .vmem => 4
  | .smem => 0
  | _ => 0

abbrev bufTy : (tb : Table) → Fin (tcTables nBuf tb) → BufTy
  | .hbm, ⟨0, _⟩ => ⟨S4x4096x768, .f32⟩
  | .hbm, ⟨1, _⟩ => ⟨S768x768, .f32⟩
  | .hbm, ⟨2, _⟩ => ⟨S768, .f32⟩
  | .hbm, ⟨3, _⟩ => ⟨S16384x768, .f32⟩
  | .hbm, ⟨4, _⟩ => ⟨S1x768, .f32⟩
  | .hbm, ⟨5, _⟩ => ⟨S16384x768, .f32⟩
  | .hbm, ⟨6, _⟩ => ⟨S4x4096x768, .f32⟩
  | .local _ .vmem, ⟨0, _⟩ => ⟨S768x768, .f32⟩
  | .local _ .vmem, ⟨1, _⟩ => ⟨S1x768, .f32⟩
  | .local _ .vmem, ⟨2, _⟩ => ⟨S4x2048x768, .f32⟩
  | .local _ .vmem, ⟨3, _⟩ => ⟨S4x2048x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32_1 : BitVec 32 := 4#32
  let v4 : BitVec 32 := Scalar.addi arg0 c4_i32_1
  let c1_i32 : BitVec 32 := 1#32
  let v5 : BitVec 32 := Scalar.subi v4 c1_i32
  let c8_i32 : BitVec 32 := 8#32
  let v6 : BitVec 1 := Scalar.cmpi .slt v5 c8_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c4_i32_1 : BitVec 32 := 4#32
  let v4 : BitVec 32 := Scalar.addi arg0 c4_i32_1
  let c1_i32 : BitVec 32 := 1#32
  let v5 : BitVec 32 := Scalar.subi v4 c1_i32
  let c4_i32_20 : BitVec 32 := 4#32
  let v41 : BitVec 32 := Scalar.remsi v5 c4_i32_20
  ![v41.toNat]
def k0_off2 (i : grid0.Coords) : Fin 3 → Nat :=
  let arg0 : BitVec 32 := BitVec.ofNat 32 (i 0).val
  let c4_i32_1 : BitVec 32 := 4#32
  let v4 : BitVec 32 := Scalar.addi arg0 c4_i32_1
  let c1_i32 : BitVec 32 := 1#32
  let v5 : BitVec 32 := Scalar.subi v4 c1_i32
  let c4_i32_20 : BitVec 32 := 4#32
  let v41 : BitVec 32 := Scalar.remsi v5 c4_i32_20
  let c0_i32_22 : BitVec 32 := 0#32
  let c0_i32_23 : BitVec 32 := 0#32
  ![v41.toNat, 0, 0]
def k0_off3 (i : grid0.Coords) : Fin 2 → Nat :=
  let arg0 : BitVec 32 := BitVec.ofNat 32 (i 0).val
  let c4_i32_1 : BitVec 32 := 4#32
  let v4 : BitVec 32 := Scalar.addi arg0 c4_i32_1
  let c1_i32 : BitVec 32 := 1#32
  let v5 : BitVec 32 := Scalar.subi v4 c1_i32
  let c2048_i32_21 : BitVec 32 := 2048#32
  let v42 : BitVec 32 := Scalar.muli v5 c2048_i32_21
  let c0_i32_24 : BitVec 32 := 0#32
  ![v42.toNat, 0]
def k0_cond3 (i : grid0.Coords) : BitVec 1 :=
  let arg0 : BitVec 32 := BitVec.ofNat 32 (i 0).val
  let c4_i32_3 : BitVec 32 := 4#32
  let v9 : BitVec 1 := Scalar.cmpi .sge arg0 c4_i32_3
  let v10 : BitVec 32 := Scalar.extui v9
  let c0_i32_4 : BitVec 32 := 0#32
  let v11 : BitVec 1 := Scalar.cmpi .ne v10 c0_i32_4
  v11

def k0_off4 (i : grid0.Coords) : Fin 1 → Nat :=
  let arg0 : BitVec 32 := BitVec.ofNat 32 (i 0).val
  let c4_i32 : BitVec 32 := 4#32
  let v3 : BitVec 32 := Scalar.remsi arg0 c4_i32
  ![v3.toNat]
def k0_off5 (i : grid0.Coords) : Fin 2 → Nat :=
  let arg0 : BitVec 32 := BitVec.ofNat 32 (i 0).val
  let c4_i32_20 : BitVec 32 := 4#32
  let v41 : BitVec 32 := Scalar.subi arg0 c4_i32_20
  let c2048_i32_21 : BitVec 32 := 2048#32
  let v42 : BitVec 32 := Scalar.muli v41 c2048_i32_21
  let c0_i32_22 : BitVec 32 := 0#32
  ![v42.toNat, 0]
def k0_off6 (i : grid0.Coords) : Fin 3 → Nat :=
  let arg0 : BitVec 32 := BitVec.ofNat 32 (i 0).val
  let c4_i32 : BitVec 32 := 4#32
  let v3 : BitVec 32 := Scalar.remsi arg0 c4_i32
  let c0_i32_23 : BitVec 32 := 0#32
  let c0_i32_24 : BitVec 32 := 0#32
  ![v3.toNat, 0, 0]
def k0_off7 (i : grid0.Coords) : Fin 1 → Nat :=
  let arg0 : BitVec 32 := BitVec.ofNat 32 (i 0).val
  let c4_i32 : BitVec 32 := 4#32
  let v3 : BitVec 32 := Scalar.remsi arg0 c4_i32
  ![v3.toNat]
def k0_off8 (i : grid0.Coords) : Fin 3 → Nat :=
  let arg0 : BitVec 32 := BitVec.ofNat 32 (i 0).val
  let c4_i32 : BitVec 32 := 4#32
  let v3 : BitVec 32 := Scalar.remsi arg0 c4_i32
  let c0_i32_5 : BitVec 32 := 0#32
  let c0_i32_6 : BitVec 32 := 0#32
  ![v3.toNat, 0, 0]
def k0_off9 (i : grid0.Coords) : Fin 2 → Nat :=
  let arg0 : BitVec 32 := BitVec.ofNat 32 (i 0).val
  let c2048_i32 : BitVec 32 := 2048#32
  let v12 : BitVec 32 := Scalar.muli arg0 c2048_i32
  let c0_i32_7 : BitVec 32 := 0#32
  ![v12.toNat, 0]
def k0_off10 (i : grid0.Coords) : Fin 3 → Nat :=
  let arg0 : BitVec 32 := BitVec.ofNat 32 (i 0).val
  let c4_i32 : BitVec 32 := 4#32
  let v3 : BitVec 32 := Scalar.remsi arg0 c4_i32
  let v18 : Index := Scalar.indexCast v3
  let c0 : Index := 0#32
  let c0_8 : Index := 0#32
  ![v18.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4x4096x768 : Shape := ⟨3, ![4, 4096, 768]⟩
abbrev S768x768 : Shape := ⟨2, ![768, 768]⟩
abbrev S768 : Shape := ⟨1, ![768]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x1x768 : Shape := ⟨3, ![1, 1, 768]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S768x768, .f32⟩
  | .hbm, ⟨2, _⟩ => ⟨S768, .f32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4x4096x768, .f32⟩
  | .hbm, ⟨24, _⟩ => ⟨S4x4096x768, .i1⟩
  | .hbm, ⟨25, _⟩ => ⟨S_, .f32⟩
  | .hbm, ⟨26, _⟩ => ⟨S4x4096x768, .f32⟩
  | .hbm, ⟨27, _⟩ => ⟨S4x4096x768, .f32⟩
  | .hbm, ⟨28, _⟩ => ⟨S4x4096x768, .f32⟩
  | .hbm, ⟨29, _⟩ => ⟨S1x1x768, .f32⟩
  | .hbm, ⟨30, _⟩ => ⟨S4x4096x768, .f32⟩
  | .hbm, ⟨31, _⟩ => ⟨S4x4096x768, .f32⟩
  | .hbm, ⟨32, _⟩ => ⟨S4x4096x768, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S1x1, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i1⟩
  | .hbm, ⟨50, _⟩ => ⟨S4096, .i1⟩
  | .hbm, ⟨51, _⟩ => ⟨S4x4096x768, .f32⟩
  | .hbm, ⟨52, _⟩ => ⟨S4x4096x768, .i1⟩
  | .hbm, ⟨53, _⟩ => ⟨S_, .f32⟩
  | .hbm, ⟨54, _⟩ => ⟨S4x4096x768, .f32⟩
  | .hbm, ⟨55, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v6 : Ref sig .tc := ⟨.hbm, 55, rfl⟩

abbrev nD : Nat := 1
abbrev τ : Topo := Topo.v7x

variable {F : FTy → Type} [FloatOps F]
-- ==== Proof.Transport.lean ====
/- The program as lowered and the program over ideal values are one text; so a run of the one is a run of the other, at any
   float values. -/
module

public import proofs.«01_k».proof.Proof.Gen.Kernel
public import proofs.«01_k».proof.Proof.Gen.KernelIdeal

@[expose] public section

noncomputable section

namespace Cert.Transport

open Idealize.ShloMosaic

variable {F : FTy → Type} [FloatOps F]

set_option maxRecDepth 65536 in
/-- The bodies' table, -/
theorem bodies : (letI := Cert.Kernel.Gen.facts; Cert.Kernel.defs₀ (F := F)) = (letI := Cert.KernelIdeal.Gen.facts; Cert.KernelIdeal.defs₀ (F := F)) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl

/-- the pipeline over it, -/
theorem table : (letI := Cert.Kernel.Gen.facts; Cert.Kernel.defs (F := F)) = (letI := Cert.KernelIdeal.Gen.facts; Cert.KernelIdeal.defs (F := F)) :=
  congrArg (Pipeline.defs (letI := Cert.KernelIdeal.Gen.facts; Cert.KernelIdeal.pcfgs (F := F))) bodies

/-- and the main program. -/
theorem mains : (letI := Cert.Kernel.Gen.facts; Cert.Kernel.main (F := F)) = (letI := Cert.KernelIdeal.Gen.facts; Cert.KernelIdeal.main (F := F)) := rfl

end Cert.Transport

end
-- ==== Proof.WriteRing.lean ====
/- A write-behind ring of four slots over eight blocks: block `u`'s results are packed into slot `u mod 4`, copied out
   from there, and the copy is waited for four steps later, when the slot is packed again; the last step waits for
   every copy still on its way. The state of the ring before step `p` is given here block by block, over four families
   left abstract: a slot that is free, a copy on its way, a block still to be written, a block written. -/
module

public import Idealize.ShloMosaic.Lib.Ring

@[expose] public section

noncomputable section

namespace Cert.WriteRing

open Idealize.ShloMosaic
open Idealize.SL Idealize.SL.RA Idealize.SL.BI
open scoped Idealize.SL.BI
open Idealize.SL.BI.BIBase Idealize.SL.BI.Laws Idealize.SL.ProofMode
open Idealize.ShloMosaic.Ring (sl bk)

variable {M : Type _} [URA M]
variable (free : Fin 4 → sProp M) (flying : Fin 4 → Fin 8 → sProp M) (todo done : Fin 8 → sProp M)

theorem sep_emp_eq (P : sProp M) : iprop(P ∗ BI.emp) = P := BI.equiv_iff.mp BI.sep_emp

/-- Block `u` before step `p`: still to be written (one of the first four brings its own slot, free); on its way from
    its slot; or written (after the last step one of the last four gives its slot back). -/
def part (p : ℕ) (u : Fin 8) : sProp M :=
  if p ≤ u.val then (if u.val < 4 then iprop(todo u ∗ free (sl 4 u.val)) else todo u)
  else if p ≤ u.val + 4 ∧ p < 8 then flying (sl 4 u.val) u
  else (if 4 ≤ u.val then iprop(done u ∗ free (sl 4 u.val)) else done u)

/-- The ring before step `p`. -/
def at_ (p : ℕ) : sProp M := bigSep Finset.univ (part free flying todo done p)

/-- One block taken out of the ring. -/
theorem at_take (p : ℕ) (u : Fin 8) :
    at_ free flying todo done p
      = iprop(part free flying todo done p u ∗ bigSep (Finset.univ.erase u) (part free flying todo done p)) := by
  unfold at_
  rw [BI.bigSep_erase (Finset.mem_univ u)]; rfl

/-- A step of the first four packs a free slot and starts a copy: the other blocks do not change. -/
def restBoot (p : ℕ) : sProp M := bigSep (Finset.univ.erase (bk 8 p)) (part free flying todo done p)

theorem bk_val (p : ℕ) (h : p < 8) : (bk 8 p).val = p := Nat.mod_eq_of_lt h

theorem at_boot (p : ℕ) (h : p < 4) :
    at_ free flying todo done p
      = iprop((todo (bk 8 p) ∗ free (sl 4 p)) ∗ restBoot free flying todo done p) := by
  rw [at_take free flying todo done p (bk 8 p)]
  unfold restBoot
  congr 1
  have e := bk_val p (by omega)
  unfold part
  rw [if_pos (by omega), if_pos (by omega), e]

theorem at_boot_next (p : ℕ) (h : p < 4) :
    at_ free flying todo done (p + 1)
      = iprop(flying (sl 4 p) (bk 8 p) ∗ restBoot free flying todo done p) := by
  rw [at_take free flying todo done (p + 1) (bk 8 p)]
  unfold restBoot
  have e := bk_val p (by omega)
  congr 1
  · unfold part
    rw [if_neg (by omega), if_pos (by omega), e]
  · refine BI.bigSep_congr fun u hu => ?_
    have hne : u.val ≠ p := fun hc => (Finset.mem_erase.mp hu).1 (Fin.ext (by rw [e, hc]))
    have := u.isLt
    unfold part
    by_cases h1 : p ≤ u.val
    · rw [if_pos (by omega : p + 1 ≤ u.val), if_pos h1]
    · rw [if_neg (by omega : ¬p + 1 ≤ u.val), if_neg h1, if_pos (by omega), if_pos (by omega)]

/-- The blocks a later step leaves as they are. -/
def restSteady (p : ℕ) : sProp M :=
  bigSep ((Finset.univ.erase (bk 8 p)).erase (bk 8 (p - 4))) (part free flying todo done p)

theorem at_take_two (p q : ℕ) (h4 : 4 ≤ p) (h : p < 8) :
    at_ free flying todo done q
      = iprop(part free flying todo done q (bk 8 p) ∗ part free flying todo done q (bk 8 (p - 4))
          ∗ bigSep ((Finset.univ.erase (bk 8 p)).erase (bk 8 (p - 4))) (part free flying todo done q)) := by
  rw [at_take free flying todo done q (bk 8 p)]
  have hm : bk 8 (p - 4) ∈ (Finset.univ : Finset (Fin 8)).erase (bk 8 p) :=
    Finset.mem_erase.mpr ⟨fun hc => by
      have := congrArg Fin.val hc
      rw [bk_val p h, bk_val (p - 4) (by omega)] at this
      omega, Finset.mem_univ _⟩
  rw [BI.bigSep_erase hm]; rfl

theorem sl_sub (p : ℕ) (h4 : 4 ≤ p) : sl 4 (p - 4) = sl 4 p := Fin.ext (by simp [sl, Fin.ofNat]; omega)

theorem at_steady (p : ℕ) (h4 : 4 ≤ p) (h : p < 7) :
    at_ free flying todo done p
      = iprop(todo (bk 8 p) ∗ flying (sl 4 p) (bk 8 (p - 4)) ∗ restSteady free flying todo done p) := by
  rw [at_take_two free flying todo done p p h4 (by omega)]
  have e := bk_val p (by omega)
  have e' := bk_val (p - 4) (by omega)
  unfold restSteady
  congr 1
  · unfold part
    rw [if_pos (by omega), if_neg (by omega)]
  · congr 1
    unfold part
    rw [if_neg (by omega), if_pos (by omega), e', sl_sub p h4]

theorem at_steady_next (p : ℕ) (h4 : 4 ≤ p) (h : p < 7) :
    at_ free flying todo done (p + 1)
      = iprop(flying (sl 4 p) (bk 8 p) ∗ done (bk 8 (p - 4)) ∗ restSteady free flying todo done p) := by
  rw [at_take_two free flying todo done p (p + 1) h4 (by omega)]
  have e := bk_val p (by omega)
  have e' := bk_val (p - 4) (by omega)
  unfold restSteady
  congr 1
  · unfold part
    rw [if_neg (by omega), if_pos (by omega), e]
  · congr 1
    · unfold part
      rw [if_neg (by omega), if_neg (by omega), if_neg (by omega)]
    · refine BI.bigSep_congr fun u hu => ?_
      have h1 := Finset.mem_erase.mp hu
      have hne' : u.val ≠ p - 4 := fun hc => h1.1 (Fin.ext (by rw [e', hc]))
      have hne : u.val ≠ p := fun hc => (Finset.mem_erase.mp h1.2).1 (Fin.ext (by rw [e, hc]))
      have := u.isLt
      unfold part
      by_cases h1 : p ≤ u.val
      · rw [if_pos (by omega : p + 1 ≤ u.val), if_pos h1]
      · by_cases h2 : p ≤ u.val + 4
        · rw [if_neg (by omega : ¬p + 1 ≤ u.val), if_neg h1, if_pos (by omega), if_pos (by omega)]
        · rw [if_neg (by omega : ¬p + 1 ≤ u.val), if_neg h1, if_neg (by omega : ¬(p + 1 ≤ u.val + 4 ∧ p + 1 < 8)),
            if_neg (by omega : ¬(p ≤ u.val + 4 ∧ p < 8))]

theorem bigSep_eight (Φ : Fin 8 → sProp M) :
    bigSep Finset.univ Φ = iprop(Φ 0 ∗ Φ 1 ∗ Φ 2 ∗ Φ 3 ∗ Φ 4 ∗ Φ 5 ∗ Φ 6 ∗ Φ 7) := by
  rw [BI.bigSep_eq_bigSepL_of_eq [0, 1, 2, 3, 4, 5, 6, 7] (by decide) (by decide)]; rfl

theorem bigSep_four (Φ : Fin 4 → sProp M) : bigSep Finset.univ Φ = iprop(Φ 0 ∗ Φ 1 ∗ Φ 2 ∗ Φ 3) := by
  rw [BI.bigSep_eq_bigSepL_of_eq [0, 1, 2, 3] (by decide) (by decide)]; rfl

/-- Before the last step three blocks are written, four are on their way and one is still to be written. -/
theorem at_last (p : ℕ) (h : p = 7) :
    at_ free flying todo done p
      = iprop(done (bk 8 (p - 7)) ∗ done (bk 8 (p - 6)) ∗ done (bk 8 (p - 5)) ∗ flying (sl 4 p) (bk 8 (p - 4))
          ∗ flying (sl 4 (p + 1)) (bk 8 (p - 3)) ∗ flying (sl 4 (p + 2)) (bk 8 (p - 2)) ∗ flying (sl 4 (p + 3)) (bk 8 (p - 1))
          ∗ todo (bk 8 p)) := by
  subst h
  unfold at_
  rw [bigSep_eight]
  rfl

/-- After the last step all are written and every slot is free. -/
theorem at_drained (p : ℕ) (h : p = 7) :
    at_ free flying todo done (p + 1)
      = iprop(done (bk 8 (p - 7)) ∗ done (bk 8 (p - 6)) ∗ done (bk 8 (p - 5)) ∗ done (bk 8 (p - 4))
          ∗ (done (bk 8 (p - 3)) ∗ free (sl 4 (p + 1))) ∗ (done (bk 8 (p - 2)) ∗ free (sl 4 (p + 2)))
          ∗ (done (bk 8 (p - 1)) ∗ free (sl 4 (p + 3))) ∗ done (bk 8 p) ∗ free (sl 4 p)) := by
  subst h
  unfold at_
  rw [bigSep_eight]
  rfl

/-- Into the ring: every block still to be written and every slot free. -/
theorem at_start : iprop(bigSep Finset.univ todo ∗ bigSep Finset.univ free) ⊢ at_ free flying todo done 0 := by
  unfold at_
  rw [bigSep_eight, bigSep_eight, bigSep_four]
  show _ ⊢ iprop((todo 0 ∗ free 0) ∗ (todo 1 ∗ free 1) ∗ (todo 2 ∗ free 2) ∗ (todo 3 ∗ free 3) ∗ todo 4 ∗ todo 5 ∗ todo 6 ∗ todo 7)
  iintro ⟨⟨T0, T1, T2, T3, T⟩, F0, F1, F2, F3⟩
  isplitl [T0 F0]
  · isplitl [T0]; · iexact T0
    iexact F0
  isplitl [T1 F1]
  · isplitl [T1]; · iexact T1
    iexact F1
  isplitl [T2 F2]
  · isplitl [T2]; · iexact T2
    iexact F2
  isplitl [T3 F3]
  · isplitl [T3]; · iexact T3
    iexact F3
  iexact T

/-- Out of the ring after the last step. -/
theorem at_end : at_ free flying todo done 8 ⊢ iprop(bigSep Finset.univ done ∗ bigSep Finset.univ free) := by
  unfold at_
  rw [bigSep_eight, bigSep_eight, bigSep_four]
  show iprop(done 0 ∗ done 1 ∗ done 2 ∗ done 3 ∗ (done 4 ∗ free 0) ∗ (done 5 ∗ free 1) ∗ (done 6 ∗ free 2) ∗ done 7 ∗ free 3) ⊢ _
  iintro ⟨D0, D1, D2, D3, ⟨D4, F0⟩, ⟨D5, F1⟩, ⟨D6, F2⟩, D7, F3⟩
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [F0]; · iexact F0
  isplitl [F1]; · iexact F1
  isplitl [F2]; · iexact F2
  iexact F3

end Cert.WriteRing

end
-- ==== Proof.Rings.lean ====
/- The two rings of the kernel's body, named: the four slots of `cc0_scratch0` into which the blocks of `main_v0` are
   copied three points ahead, and the four tiles of `cc0_scratch1` from which the results are copied out to `main_v2`
   and waited for four points later. The memory each piece stands for, the launch's buffers cut into the pieces and
   joined again, and the names the body's own offsets have among them. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.WriteRing
public import Idealize.ShloMosaic.Lib.Pipeline.FrameBody
public import Idealize.ShloMosaic.Lib.Pipeline.FrameSuffixV
public import Idealize.ShloMosaic.Lib.Ring
public import Idealize.ShloMosaic.Lib.Ring.AtN
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (sl bk)
open Cert.KernelIdeal.Gen

variable {F : FTy → Type} [FloatOps F]

local notation "𝕄" => MT nD τ sig Unit (Elt F) ℕ (Pipeline.UD sig nD τ) ℕ

/-! ## The memrefs -/

/-- The two scratch buffers and the two arrays the body copies from and to, whole. -/
abbrev inM : Memref sig .tc .vmem S4x2048x768 .f32 := Memref.whole cc0_scratch0
abbrev outM : Memref sig .tc .vmem S4x2048x768 .f32 := Memref.whole cc0_scratch1
abbrev xM : Memref sig .tc .hbm S16384x768 .f32 := Memref.whole main_v0
abbrev yM : Memref sig .tc .hbm S16384x768 .f32 := Memref.whole main_v2

/-- The contents of the buffer a memref lies in, on core `c`. -/
abbrev BufOf (c : Dev nD) {sp : Space} {S : Shape} {e : EltTy} (M : Memref sig .tc sp S e) : Type :=
  Buf (Elt F) (M.view.loc (c : Thread nD τ))

instance : NeZero grid0.N := ⟨by rw [N_0]; decide⟩

theorem slot_inb (s : Fin 4) : ∀ a, (![s.val, 0, 0] : Fin 3 → Nat) a + S1x2048x768.size a ≤ S4x2048x768.size a := by
  have := s.isLt
  intro a; fin_cases a <;> simp <;> omega
theorem block_inb (b : Fin 8) : ∀ a, (![2048 * b.val, 0] : Fin 2 → Nat) a + S2048x768.size a ≤ S16384x768.size a := by
  have := b.isLt
  intro a; fin_cases a <;> simp <;> omega
theorem cell_inb (s : Fin 4) : ∀ a, (![s.val] : Fin 1 → Nat) a + S1.size a ≤ S4.size a := by
  have := s.isLt
  intro a; fin_cases a; simp; omega

/-- Slot `s` of the input buffer, block `b` of the input, and the semaphore of slot `s`. -/
def inSlot (s : Fin 4) : Memref sig .tc .vmem S2048x768 .f32 :=
  (inM.slice (Rect.unit (s := S4x2048x768) ![s.val, 0, 0] S1x2048x768.size (slot_inb s)) (fun _ => rfl)).squeeze S2048x768 squeezes_S1x2048x768_S2048x768
def inBlock (b : Fin 8) : Memref sig .tc .hbm S2048x768 .f32 :=
  xM.slice (Rect.unit (s := S16384x768) ![2048 * b.val, 0] S2048x768.size (block_inb b)) (fun _ => rfl)
def inSem (s : Fin 4) : DmaSems sig S_ :=
  (cc0_scratch2.slice (Rect.unit (s := S4) ![s.val] S1.size (cell_inb s))).squeeze S_ squeezes_S1_S_
abbrev inCell (s : Fin 4) : SemLoc sig := SemLoc.dma (inSem s).sem

/-- Tile `g` of the output buffer, piece `u` of the output, and the semaphore of tile `g`. -/
def outTile (g : Fin 4) : Memref sig .tc .vmem S2048x768 .f32 :=
  (outM.slice (Rect.unit (s := S4x2048x768) ![g.val, 0, 0] S1x2048x768.size (slot_inb g)) (fun _ => rfl)).squeeze S2048x768 squeezes_S1x2048x768_S2048x768
def outPiece (u : Fin 8) : Memref sig .tc .hbm S2048x768 .f32 :=
  yM.slice (Rect.unit (s := S16384x768) ![2048 * u.val, 0] S2048x768.size (block_inb u)) (fun _ => rfl)
def outSem (g : Fin 4) : DmaSems sig S_ :=
  (cc0_scratch3.slice (Rect.unit (s := S4) ![g.val] S1.size (cell_inb g))).squeeze S_ squeezes_S1_S_
abbrev outCell (g : Fin 4) : SemLoc sig := SemLoc.dma (outSem g).sem

theorem inCells : inCell 0 = SemLoc.dma 2 ∧ inCell 1 = SemLoc.dma 3 ∧ inCell 2 = SemLoc.dma 4 ∧ inCell 3 = SemLoc.dma 5 := by decide
theorem outCells : outCell 0 = SemLoc.dma 6 ∧ outCell 1 = SemLoc.dma 7 ∧ outCell 2 = SemLoc.dma 8 ∧ outCell 3 = SemLoc.dma 9 := by decide

/-! ## What is held of them -/

section Held
variable (c : Dev nD)

abbrev slotP (s : Fin 4) (f : BufOf (F := F) c (inSlot s)) : sProp 𝕄 :=
  (inSlot s).view.loc (c : Thread nD τ) ↦[(inSlot s).view.set]{fullShare} f
abbrev inCellP (s : Fin 4) : sProp 𝕄 := semVal ((c : Thread nD τ), inCell s) 0
abbrev blockP (W : BufOf (F := F) c xM) (b : Fin 8) : sProp 𝕄 :=
  (inBlock b).view.loc (c : Thread nD τ) ↦[(inBlock b).view.set]{fullShare} W
/-- Slot `s` once block `b` has landed in it. -/
abbrev landed (W : BufOf (F := F) c xM) (s : Fin 4) (b : Fin 8) (f : BufOf (F := F) c (inSlot s)) : BufOf (F := F) c (inSlot s) :=
  (inSlot s).view.writes (Elt F) f [⟨Rect.whole S2048x768, ReadAs.same.apply ((inBlock b).view.read (Elt F) W)⟩]
/-- Block `b` on its way into slot `s`: it brings the slot, landed, and gives the block back. -/
abbrev inFlight (W : BufOf (F := F) c xM) (s : Fin 4) (b : Fin 8) (f : BufOf (F := F) c (inSlot s)) : sProp 𝕄 :=
  Transfers.Flight countersEmb (c : Thread nD τ) (inCell s) default ((inSlot s).view.amount (inCell s))
    iprop(slotP c s (landed c W s b f) ∗ blockP c W b)

/-- The read ring before point `k`. -/
def readRing (W : BufOf (F := F) c xM) (k : ℕ) : sProp 𝕄 :=
  if k = 0 then Ring.At₀ (inCellP (F := F) c) (slotP c) (blockP c W)
  else Ring.At 3 (inCellP (F := F) c) (slotP c) (blockP c W) (inFlight c W) k

abbrev tileP (g : Fin 4) (e : BufOf (F := F) c (outTile g)) : sProp 𝕄 :=
  (outTile g).view.loc (c : Thread nD τ) ↦[(outTile g).view.set]{fullShare} e
abbrev outCellP (g : Fin 4) : sProp 𝕄 := semVal ((c : Thread nD τ), outCell g) 0
abbrev pieceP (u : Fin 8) (f : BufOf (F := F) c (outPiece u)) : sProp 𝕄 :=
  (outPiece u).view.loc (c : Thread nD τ) ↦[(outPiece u).view.set]{fullShare} f
/-- Tile `g` on its way to piece `u`, which it leaves at `f`. -/
abbrev outFlight (g : Fin 4) (u : Fin 8) (f : BufOf (F := F) c (outPiece u)) (e : BufOf (F := F) c (outTile g)) : sProp 𝕄 :=
  Transfers.Flight countersEmb (c : Thread nD τ) (outCell g) default ((outPiece u).view.amount (outCell g)) iprop(pieceP c u f ∗ tileP c g e)

/-- Contents that are the wanted `G` on piece `u`. -/
def Right (G : BufOf (F := F) c yM) (u : Fin 8) (f : BufOf (F := F) c (outPiece u)) : Prop :=
  ∀ x : S16384x768.Idx, x ∈ (outPiece u).view.set → (show Vec F S16384x768 .f32 from f) x = (show Vec F S16384x768 .f32 from G) x

/-- The write ring's four families: a tile free, a copy on its way, a piece still to be written, a piece written. -/
def freeP (g : Fin 4) : sProp 𝕄 := iprop(outCellP (F := F) c g ∗ ∃ e, tileP c g e)
def flyP (G : BufOf (F := F) c yM) (g : Fin 4) (u : Fin 8) : sProp 𝕄 := iprop(∃ f e, ⌜Right c G u f⌝ ∗ outFlight c g u f e)
def todoP (u : Fin 8) : sProp 𝕄 := iprop(∃ f, pieceP (F := F) c u f)
def doneP (G : BufOf (F := F) c yM) (u : Fin 8) : sProp 𝕄 := iprop(∃ f, ⌜Right c G u f⌝ ∗ pieceP (F := F) c u f)

/-- The write ring before point `k`. -/
def writeRing (G : BufOf (F := F) c yM) (k : ℕ) : sProp 𝕄 :=
  WriteRing.at_ (freeP c) (flyP c G) (todoP c) (doneP c G) k

end Held

/-! ## The pieces, disjoint and covering -/

abbrev slotSet (s : Fin 4) : Finset S4x2048x768.Idx := (Rect.unit (s := S4x2048x768) ![s.val, 0, 0] S1x2048x768.size (slot_inb s)).set
abbrev blockSet (b : Fin 8) : Finset S16384x768.Idx := (Rect.unit (s := S16384x768) ![2048 * b.val, 0] S2048x768.size (block_inb b)).set

theorem inSlot_set (s : Fin 4) : (inSlot s).view.set = slotSet s := by
  simp only [inSlot, Memref.view_squeeze, View.set_reshape]; exact View.set_slice_whole _ _
theorem outTile_set (s : Fin 4) : (outTile s).view.set = slotSet s := by
  simp only [outTile, Memref.view_squeeze, View.set_reshape]; exact View.set_slice_whole _ _
theorem inBlock_set (b : Fin 8) : (inBlock b).view.set = blockSet b := View.set_slice_whole _ _
theorem outPiece_set (b : Fin 8) : (outPiece b).view.set = blockSet b := View.set_slice_whole _ _

theorem slots_disjoint (s s' : Fin 4) (h : s ≠ s') : Disjoint (slotSet s) (slotSet s') :=
  Ring.lead_disjoint (s := S4x2048x768) (0 : Fin 3) 1 (fun s : Fin 4 => (![s.val, 0, 0] : Fin 3 → Nat)) S1x2048x768.size slot_inb
    (fun s => by simp) rfl s s' h
theorem slots_cover : Finset.univ.biUnion slotSet = Finset.univ :=
  Ring.lead_cover (s := S4x2048x768) (0 : Fin 3) 1 (fun s : Fin 4 => (![s.val, 0, 0] : Fin 3 → Nat)) S1x2048x768.size slot_inb
    (fun s => by simp) (fun s a ha => by fin_cases a <;> first | exact absurd rfl ha | rfl) rfl
    (fun a ha => by fin_cases a <;> first | exact absurd rfl ha | rfl) rfl
theorem blocks_disjoint (b b' : Fin 8) (h : b ≠ b') : Disjoint (blockSet b) (blockSet b') :=
  Ring.lead_disjoint (s := S16384x768) (0 : Fin 2) 2048 (fun b : Fin 8 => (![2048 * b.val, 0] : Fin 2 → Nat)) S2048x768.size block_inb
    (fun b => by simp) rfl b b' h
theorem blocks_cover : Finset.univ.biUnion blockSet = Finset.univ :=
  Ring.lead_cover (s := S16384x768) (0 : Fin 2) 2048 (fun b : Fin 8 => (![2048 * b.val, 0] : Fin 2 → Nat)) S2048x768.size block_inb
    (fun b => by simp) (fun b a ha => by fin_cases a <;> first | exact absurd rfl ha | rfl) rfl
    (fun a ha => by fin_cases a <;> first | exact absurd rfl ha | rfl) rfl

section Cut
variable (c : Dev nD)

/-- A family held one by one, each member weakened. -/
theorem bigSep_weaken {I : Type} [Fintype I] {P Q : I → sProp 𝕄} (h : ∀ i, P i ⊢ Q i) : bigSep Finset.univ P ⊢ bigSep Finset.univ Q :=
  BI.bigSep_mono fun i _ => h i

theorem slotP_eq (s : Fin 4) (f) : slotP (F := F) c s f = (((c : Thread nD τ).loc cc0_scratch0) ↦[slotSet s]{fullShare} f : sProp 𝕄) := by
  unfold slotP; rw [inSlot_set]; rfl
theorem tileP_eq (s : Fin 4) (f) : tileP (F := F) c s f = (((c : Thread nD τ).loc cc0_scratch1) ↦[slotSet s]{fullShare} f : sProp 𝕄) := by
  unfold tileP; rw [outTile_set]; rfl
theorem blockP_eq (W : BufOf (F := F) c xM) (b : Fin 8) : blockP c W b = (((c : Thread nD τ).loc main_v0) ↦[blockSet b]{fullShare} W : sProp 𝕄) := by
  unfold blockP; rw [inBlock_set]; rfl
theorem pieceP_eq (u : Fin 8) (f) : pieceP (F := F) c u f = (((c : Thread nD τ).loc main_v2) ↦[blockSet u]{fullShare} f : sProp 𝕄) := by
  unfold pieceP; rw [outPiece_set]; rfl

set_option maxHeartbeats 1000000 in
/-- The input buffer, whole, is its four slots; so is the output buffer its four tiles. -/
theorem slots_cut : (iprop(∃ f : Buf (Elt F) ((c : Thread nD τ).loc cc0_scratch0), ((c : Thread nD τ).loc cc0_scratch0) ↦{fullShare} f) : sProp 𝕄)
    ⊢ iprop((∃ f, slotP (F := F) c 0 f) ∗ (∃ f, slotP (F := F) c 1 f) ∗ (∃ f, slotP (F := F) c 2 f) ∗ ∃ f, slotP (F := F) c 3 f) :=
  Ring.slots4_split (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)
set_option maxHeartbeats 1000000 in
theorem slots_whole : (iprop((∃ f, slotP (F := F) c 0 f) ∗ (∃ f, slotP (F := F) c 1 f) ∗ (∃ f, slotP (F := F) c 2 f) ∗ ∃ f, slotP (F := F) c 3 f) : sProp 𝕄)
    ⊢ iprop(∃ f : Buf (Elt F) ((c : Thread nD τ).loc cc0_scratch0), ((c : Thread nD τ).loc cc0_scratch0) ↦{fullShare} f) :=
  Ring.slots4_join (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)
set_option maxHeartbeats 1000000 in
theorem tiles_cut : (iprop(∃ f : Buf (Elt F) ((c : Thread nD τ).loc cc0_scratch1), ((c : Thread nD τ).loc cc0_scratch1) ↦{fullShare} f) : sProp 𝕄)
    ⊢ iprop((∃ f, tileP (F := F) c 0 f) ∗ (∃ f, tileP (F := F) c 1 f) ∗ (∃ f, tileP (F := F) c 2 f) ∗ ∃ f, tileP (F := F) c 3 f) :=
  Ring.slots4_split (U := Pipeline.UD sig nD τ) (ℓ := (c : Thread nD τ).loc cc0_scratch1) (q := fullShare) slotSet slots_disjoint slots_cover
    (tileP c 0) (tileP c 1) (tileP c 2) (tileP c 3) (tileP_eq c 0) (tileP_eq c 1) (tileP_eq c 2) (tileP_eq c 3)
set_option maxHeartbeats 1000000 in
theorem tiles_whole : (iprop((∃ f, tileP (F := F) c 0 f) ∗ (∃ f, tileP (F := F) c 1 f) ∗ (∃ f, tileP (F := F) c 2 f) ∗ ∃ f, tileP (F := F) c 3 f) : sProp 𝕄)
    ⊢ iprop(∃ f : Buf (Elt F) ((c : Thread nD τ).loc cc0_scratch1), ((c : Thread nD τ).loc cc0_scratch1) ↦{fullShare} f) :=
  Ring.slots4_join (U := Pipeline.UD sig nD τ) (ℓ := (c : Thread nD τ).loc cc0_scratch1) (q := fullShare) slotSet slots_disjoint slots_cover
    (tileP c 0) (tileP c 1) (tileP c 2) (tileP c 3) (tileP_eq c 0) (tileP_eq c 1) (tileP_eq c 2) (tileP_eq c 3)

/-- The input array is its eight blocks. -/
theorem blocks_eq (W : BufOf (F := F) c xM) :
    (((c : Thread nD τ).loc main_v0) ↦{fullShare} W : sProp 𝕄) = bigSep Finset.univ (blockP c W) :=
  (Ring.pointsTo_blocks (ℓ := (c : Thread nD τ).loc main_v0) blockSet blocks_disjoint blocks_cover W).trans
    (BI.bigSep_congr fun b _ => (blockP_eq c W b).symm)

/-- The output array, at any contents, is its eight pieces still to be written. -/
theorem pieces_cut (f : Buf (Elt F) ((c : Thread nD τ).loc main_v2)) :
    (((c : Thread nD τ).loc main_v2) ↦{fullShare} f : sProp 𝕄) ⊢ bigSep Finset.univ (todoP c) := by
  rw [Ring.pointsTo_blocks (ℓ := (c : Thread nD τ).loc main_v2) blockSet blocks_disjoint blocks_cover f]
  refine bigSep_weaken fun u => ?_
  unfold todoP
  iintro H; iexists f; iapply (Entails.of_eq (pieceP_eq c u f).symm); iexact H

/-- The eight pieces written are the output array at the wanted contents. -/
theorem pieces_whole (G : BufOf (F := F) c yM) :
    bigSep Finset.univ (doneP c G) ⊢ (((c : Thread nD τ).loc main_v2) ↦{fullShare} G : sProp 𝕄) := by
  rw [Ring.pointsTo_blocks (ℓ := (c : Thread nD τ).loc main_v2) blockSet blocks_disjoint blocks_cover G]
  refine bigSep_weaken fun u => ?_
  unfold doneP
  iintro ⟨%f, %hf, H⟩
  iapply (Entails.of_eq ((pieceP_eq c u f).trans (pointsTo_congr fun x hx => hf x (by rw [outPiece_set]; exact hx))))
  iexact H

end Cut

/-! ## Into the rings and out of them -/

section InOut
variable (c : Dev nD)

theorem inCellP_0 : inCellP (F := F) c 0 = semVal ((c : Thread nD τ), SemLoc.dma 2) 0 := congrArg (fun x => (semVal ((c : Thread nD τ), x) 0 : sProp 𝕄)) inCells.1
theorem inCellP_1 : inCellP (F := F) c 1 = semVal ((c : Thread nD τ), SemLoc.dma 3) 0 := congrArg (fun x => (semVal ((c : Thread nD τ), x) 0 : sProp 𝕄)) inCells.2.1
theorem inCellP_2 : inCellP (F := F) c 2 = semVal ((c : Thread nD τ), SemLoc.dma 4) 0 := congrArg (fun x => (semVal ((c : Thread nD τ), x) 0 : sProp 𝕄)) inCells.2.2.1
theorem inCellP_3 : inCellP (F := F) c 3 = semVal ((c : Thread nD τ), SemLoc.dma 5) 0 := congrArg (fun x => (semVal ((c : Thread nD τ), x) 0 : sProp 𝕄)) inCells.2.2.2
theorem outCellP_0 : outCellP (F := F) c 0 = semVal ((c : Thread nD τ), SemLoc.dma 6) 0 := congrArg (fun x => (semVal ((c : Thread nD τ), x) 0 : sProp 𝕄)) outCells.1
theorem outCellP_1 : outCellP (F := F) c 1 = semVal ((c : Thread nD τ), SemLoc.dma 7) 0 := congrArg (fun x => (semVal ((c : Thread nD τ), x) 0 : sProp 𝕄)) outCells.2.1
theorem outCellP_2 : outCellP (F := F) c 2 = semVal ((c : Thread nD τ), SemLoc.dma 8) 0 := congrArg (fun x => (semVal ((c : Thread nD τ), x) 0 : sProp 𝕄)) outCells.2.2.1
theorem outCellP_3 : outCellP (F := F) c 3 = semVal ((c : Thread nD τ), SemLoc.dma 9) 0 := congrArg (fun x => (semVal ((c : Thread nD τ), x) 0 : sProp 𝕄)) outCells.2.2.2

/-- The four in-cells and the four out-cells at zero. -/
abbrev inZero : sProp 𝕄 := iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)
abbrev outZero : sProp 𝕄 := iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)

theorem read_in (W : BufOf (F := F) c xM) :
    iprop((∃ f : Buf (Elt F) ((c : Thread nD τ).loc cc0_scratch0), ((c : Thread nD τ).loc cc0_scratch0) ↦{fullShare} f) ∗ inZero (F := F) c
      ∗ ((c : Thread nD τ).loc main_v0) ↦{fullShare} W) ⊢ readRing c W 0 := by
  unfold readRing; rw [if_pos rfl]; unfold Ring.At₀
  rw [WriteRing.bigSep_four, blocks_eq]
  simp only [Ring.free, inCellP_0, inCellP_1, inCellP_2, inCellP_3]
  iintro ⟨HS, ⟨H0, H1, H2, H3⟩, HW⟩
  isplitl [HW]; · iexact HW
  ihave HS' := (slots_cut (F := F) c) $$ HS
  icases HS' with ⟨S0, S1, S2, S3⟩
  isplitl [H0 S0]
  · isplitl [H0]; · iexact H0
    iexact S0
  isplitl [H1 S1]
  · isplitl [H1]; · iexact H1
    iexact S1
  isplitl [H2 S2]
  · isplitl [H2]; · iexact H2
    iexact S2
  · isplitl [H3]; · iexact H3
    iexact S3

theorem read_out (W : BufOf (F := F) c xM) :
    readRing c W 8 ⊢ iprop((∃ f : Buf (Elt F) ((c : Thread nD τ).loc cc0_scratch0), ((c : Thread nD τ).loc cc0_scratch0) ↦{fullShare} f) ∗ inZero (F := F) c
      ∗ ((c : Thread nD τ).loc main_v0) ↦{fullShare} W) := by
  unfold readRing; rw [if_neg (by decide)]
  iintro H
  ihave H' := (Ring.free4_of_At_last _ _ _ _) $$ H
  simp only [Ring.free, inCellP_0, inCellP_1, inCellP_2, inCellP_3]
  icases H' with ⟨HW, ⟨H0, S0⟩, ⟨H1, S1⟩, ⟨H2, S2⟩, ⟨H3, S3⟩⟩
  isplitl [S0 S1 S2 S3]
  · iapply (slots_whole (F := F) c)
    isplitl [S0]; · iexact S0
    isplitl [S1]; · iexact S1
    isplitl [S2]; · iexact S2
    iexact S3
  isplitl [H0 H1 H2 H3]
  · isplitl [H0]; · iexact H0
    isplitl [H1]; · iexact H1
    isplitl [H2]; · iexact H2
    iexact H3
  · iapply (Entails.of_eq (blocks_eq c W).symm); iexact HW

theorem write_in (G : BufOf (F := F) c yM) (f : Buf (Elt F) ((c : Thread nD τ).loc main_v2)) :
    iprop((∃ f : Buf (Elt F) ((c : Thread nD τ).loc cc0_scratch1), ((c : Thread nD τ).loc cc0_scratch1) ↦{fullShare} f) ∗ outZero (F := F) c
      ∗ ((c : Thread nD τ).loc main_v2) ↦{fullShare} f) ⊢ writeRing c G 0 := by
  unfold writeRing
  refine BIBase.Entails.trans ?_ (WriteRing.at_start _ _ _ _)
  rw [WriteRing.bigSep_four]
  simp only [freeP, outCellP_0, outCellP_1, outCellP_2, outCellP_3]
  iintro ⟨HS, ⟨H0, H1, H2, H3⟩, HW⟩
  isplitl [HW]; · iapply (pieces_cut c f); iexact HW
  ihave HS' := (tiles_cut (F := F) c) $$ HS
  icases HS' with ⟨S0, S1, S2, S3⟩
  isplitl [H0 S0]
  · isplitl [H0]; · iexact H0
    iexact S0
  isplitl [H1 S1]
  · isplitl [H1]; · iexact H1
    iexact S1
  isplitl [H2 S2]
  · isplitl [H2]; · iexact H2
    iexact S2
  · isplitl [H3]; · iexact H3
    iexact S3

theorem write_out (G : BufOf (F := F) c yM) :
    writeRing c G 8 ⊢ iprop((∃ f : Buf (Elt F) ((c : Thread nD τ).loc cc0_scratch1), ((c : Thread nD τ).loc cc0_scratch1) ↦{fullShare} f) ∗ outZero (F := F) c
      ∗ ((c : Thread nD τ).loc main_v2) ↦{fullShare} G) := by
  unfold writeRing
  refine (WriteRing.at_end _ _ _ _).trans ?_
  rw [WriteRing.bigSep_four]
  simp only [freeP, outCellP_0, outCellP_1, outCellP_2, outCellP_3]
  iintro ⟨HW, ⟨H0, S0⟩, ⟨H1, S1⟩, ⟨H2, S2⟩, ⟨H3, S3⟩⟩
  isplitl [S0 S1 S2 S3]
  · iapply (tiles_whole (F := F) c)
    isplitl [S0]; · iexact S0
    isplitl [S1]; · iexact S1
    isplitl [S2]; · iexact S2
    iexact S3
  isplitl [H0 H1 H2 H3]
  · isplitl [H0]; · iexact H0
    isplitl [H1]; · iexact H1
    isplitl [H2]; · iexact H2
    iexact H3
  · iapply (pieces_whole c G); iexact HW

end InOut

end Cert.KernelIdeal.Hand

end
-- ==== Proof.Names.lean ====
/- The names the body's own offsets have among the rings' pieces: at point `t` the slice the body takes is slot
   `t mod 4`, block `t`, and so on. -/
module

public import proofs.«01_k».proof.Proof.Rings

@[expose] public section

set_option maxRecDepth 16384

noncomputable section

namespace Cert.KernelIdeal.Hand

open Idealize.ShloMosaic Idealize.ShloMosaic.TcCoe Idealize.ShloMosaic.Tactic
open Idealize.ShloMosaic.Ring (sl bk)
open Cert.KernelIdeal.Gen

/-! ## The branches the body takes -/

abbrev isFirst (i : grid0.Coords) : Prop := (Scalar.cmpi .ne (Scalar.extui (Scalar.cmpi .eq (BitVec.ofNat 32 (i 0).val) 0#32)) 0#32) = 1#1
abbrev isLast (i : grid0.Coords) : Prop := (Scalar.cmpi .ne (Scalar.extui (Scalar.cmpi .eq (BitVec.ofNat 32 (i 0).val) 7#32)) 0#32) = 1#1

theorem isFirst_iff : ∀ t : Fin grid0.N, isFirst (grid0.coords t) ↔ t.val = 0 := by decide +kernel
theorem ahead_iff : ∀ t : Fin grid0.N, k0_cond2 (grid0.coords t) = 1#1 ↔ t.val < 5 := by decide +kernel
theorem behind_iff : ∀ t : Fin grid0.N, k0_cond3 (grid0.coords t) = 1#1 ↔ 4 ≤ t.val := by decide +kernel
theorem isLast_iff : ∀ t : Fin grid0.N, isLast (grid0.coords t) ↔ t.val = 7 := by decide +kernel

/-! ## A slice at a piece's offsets is the piece -/

theorem inSlot_of {off : Fin 3 → ℕ} {s : Fin 4} (h : off = ![s.val, 0, 0]) (inb) :
    (inM.slice (Rect.unit (s := S4x2048x768) off S1x2048x768.size inb) (fun _ => rfl)).squeeze S2048x768 squeezes_S1x2048x768_S2048x768 = inSlot s := by
  subst h; rfl
theorem outTile_of {off : Fin 3 → ℕ} {s : Fin 4} (h : off = ![s.val, 0, 0]) (inb) :
    (outM.slice (Rect.unit (s := S4x2048x768) off S1x2048x768.size inb) (fun _ => rfl)).squeeze S2048x768 squeezes_S1x2048x768_S2048x768 = outTile s := by
  subst h; rfl
theorem inBlock_of {off : Fin 2 → ℕ} {b : Fin 8} (h : off = ![2048 * b.val, 0]) (inb) :
    xM.slice (Rect.unit (s := S16384x768) off S2048x768.size inb) (fun _ => rfl) = inBlock b := by
  subst h; rfl
theorem outPiece_of {off : Fin 2 → ℕ} {b : Fin 8} (h : off = ![2048 * b.val, 0]) (inb) :
    yM.slice (Rect.unit (s := S16384x768) off S2048x768.size inb) (fun _ => rfl) = outPiece b := by
  subst h; rfl
theorem inSem_of {off : Fin 1 → ℕ} {s : Fin 4} (h : off = ![s.val]) (inb) :
    (cc0_scratch2.slice (Rect.unit (s := S4) off S1.size inb)).squeeze S_ squeezes_S1_S_ = inSem s := by
  subst h; rfl
theorem outSem_of {off : Fin 1 → ℕ} {s : Fin 4} (h : off = ![s.val]) (inb) :
    (cc0_scratch3.slice (Rect.unit (s := S4) off S1.size inb)).squeeze S_ squeezes_S1_S_ = outSem s := by
  subst h; rfl

/-! ## The body's offsets at point `t` -/

theorem off1_at : ∀ t : Fin grid0.N, k0_off1 (grid0.coords t) = ![(sl 4 (t.val + 3)).val] := by decide +kernel
theorem off2_at : ∀ t : Fin grid0.N, k0_off2 (grid0.coords t) = ![(sl 4 (t.val + 3)).val, 0, 0] := by decide +kernel
theorem off3_at : ∀ t : Fin grid0.N, t.val < 5 → k0_off3 (grid0.coords t) = ![2048 * (bk 8 (t.val + 3)).val, 0] := by decide +kernel
theorem off4_at : ∀ t : Fin grid0.N, k0_off4 (grid0.coords t) = ![(sl 4 t.val).val] := by decide +kernel
theorem off5_at : ∀ t : Fin grid0.N, 4 ≤ t.val → k0_off5 (grid0.coords t) = ![2048 * (bk 8 (t.val - 4)).val, 0] := by decide +kernel
theorem off6_at : ∀ t : Fin grid0.N, k0_off6 (grid0.coords t) = ![(sl 4 t.val).val, 0, 0] := by decide +kernel
theorem off7_at : ∀ t : Fin grid0.N, k0_off7 (grid0.coords t) = ![(sl 4 t.val).val] := by decide +kernel
theorem off8_at : ∀ t : Fin grid0.N, k0_off8 (grid0.coords t) = ![(sl 4 t.val).val, 0, 0] := by decide +kernel
theorem off9_at : ∀ t : Fin grid0.N, k0_off9 (grid0.coords t) = ![2048 * (bk 8 t.val).val, 0] := by decide +kernel
theorem off10_at : ∀ t : Fin grid0.N, k0_off10 (grid0.coords t) = ![(sl 4 t.val).val, 0, 0] := by decide +kernel

/-- The load's and the store's box is slot `t mod 4` of its buffer. -/
instance (priority := high) off10_closed (t : Fin grid0.N) : ClosedOff (k0_off10 (grid0.coords t)) := ⟨![(sl 4 t.val).val, 0, 0], off10_at t⟩

/-! ## The names the run reads the body in -/

@[sl_canon] theorem name_off7_in (t : Fin grid0.N) :
    (cc0_scratch2.slice (Rect.unit (s := S4) (k0_off7 (grid0.coords t)) S1.size (k0_off7_inb (grid0.coords t)))).squeeze S_ squeezes_S1_S_ = inSem (sl 4 t.val) :=
  inSem_of (off7_at t) _
@[sl_canon] theorem name_off8_in (t : Fin grid0.N) :
    (inM.slice (Rect.unit (s := S4x2048x768) (k0_off8 (grid0.coords t)) S1x2048x768.size (k0_off8_inb (grid0.coords t))) (fun _ => rfl)).squeeze S2048x768 squeezes_S1x2048x768_S2048x768 = inSlot (sl 4 t.val) :=
  inSlot_of (off8_at t) _
@[sl_canon] theorem name_off9_in (t : Fin grid0.N) :
    xM.slice (Rect.unit (s := S16384x768) (k0_off9 (grid0.coords t)) S2048x768.size (k0_off9_inb (grid0.coords t))) (fun _ => rfl) = inBlock (bk 8 t.val) :=
  inBlock_of (off9_at t) _
@[sl_canon] theorem name_off7_out (t : Fin grid0.N) :
    (cc0_scratch3.slice (Rect.unit (s := S4) (k0_off7 (grid0.coords t)) S1.size (k0_off7_inb (grid0.coords t)))).squeeze S_ squeezes_S1_S_ = outSem (sl 4 t.val) :=
  outSem_of (off7_at t) _
@[sl_canon] theorem name_off8_out (t : Fin grid0.N) :
    (outM.slice (Rect.unit (s := S4x2048x768) (k0_off8 (grid0.coords t)) S1x2048x768.size (k0_off8_inb (grid0.coords t))) (fun _ => rfl)).squeeze S2048x768 squeezes_S1x2048x768_S2048x768 = outTile (sl 4 t.val) :=
  outTile_of (off8_at t) _
@[sl_canon] theorem name_off9_out (t : Fin grid0.N) :
    yM.slice (Rect.unit (s := S16384x768) (k0_off9 (grid0.coords t)) S2048x768.size (k0_off9_inb (grid0.coords t))) (fun _ => rfl) = outPiece (bk 8 t.val) :=
  outPiece_of (off9_at t) _
/-- The same three with the pieces' extents as numbers, as the later part of the body has them. -/
@[sl_canon] theorem name_off7_out' (t : Fin grid0.N) :
    (cc0_scratch3.slice (Rect.unit (s := S4) (k0_off7 (grid0.coords t)) ![1] (k0_off7_inb (grid0.coords t)))).squeeze S_ squeezes_S1_S_ = outSem (sl 4 t.val) :=
  name_off7_out t
@[sl_canon] theorem name_off8_out' (t : Fin grid0.N) :
    (outM.slice (Rect.unit (s := S4x2048x768) (k0_off8 (grid0.coords t)) ![1, 2048, 768] (k0_off8_inb (grid0.coords t))) (fun _ => rfl)).squeeze S2048x768 squeezes_S1x2048x768_S2048x768 = outTile (sl 4 t.val) :=
  name_off8_out t
@[sl_canon] theorem name_off9_out' (t : Fin grid0.N) :
    yM.slice (Rect.unit (s := S16384x768) (k0_off9 (grid0.coords t)) ![2048, 768] (k0_off9_inb (grid0.coords t))) (fun _ => rfl) = outPiece (bk 8 t.val) :=
  name_off9_out t
/-- The block three ahead, where there is one. -/
@[sl_canon] theorem name_off1_in (t : Fin grid0.N) (h : k0_cond2 (grid0.coords t) = 1#1) :
    (cc0_scratch2.slice (Rect.unit (s := S4) (k0_off1 (grid0.coords t)) S1.size (k0_off1_inb (grid0.coords t) h))).squeeze S_ squeezes_S1_S_ = inSem (sl 4 (t.val + 3)) :=
  inSem_of (off1_at t) _
@[sl_canon] theorem name_off2_in (t : Fin grid0.N) (h : k0_cond2 (grid0.coords t) = 1#1) :
    (inM.slice (Rect.unit (s := S4x2048x768) (k0_off2 (grid0.coords t)) S1x2048x768.size (k0_off2_inb (grid0.coords t) h)) (fun _ => rfl)).squeeze S2048x768 squeezes_S1x2048x768_S2048x768 = inSlot (sl 4 (t.val + 3)) :=
  inSlot_of (off2_at t) _
@[sl_canon] theorem name_off3_in (t : Fin grid0.N) (h : k0_cond2 (grid0.coords t) = 1#1) :
    xM.slice (Rect.unit (s := S16384x768) (k0_off3 (grid0.coords t)) S2048x768.size (k0_off3_inb (grid0.coords t) h)) (fun _ => rfl) = inBlock (bk 8 (t.val + 3)) :=
  inBlock_of (off3_at t ((ahead_iff t).mp h)) _
/-- The piece four behind, where there is one. -/
@[sl_canon] theorem name_off4_out (t : Fin grid0.N) (h : k0_cond3 (grid0.coords t) = 1#1) :
    (cc0_scratch3.slice (Rect.unit (s := S4) (k0_off4 (grid0.coords t)) S1.size (k0_off4_inb (grid0.coords t) h))).squeeze S_ squeezes_S1_S_ = outSem (sl 4 t.val) :=
  outSem_of (off4_at t) _
@[sl_canon] theorem name_off6_out (t : Fin grid0.N) (h : k0_cond3 (grid0.coords t) = 1#1) :
    (outM.slice (Rect.unit (s := S4x2048x768) (k0_off6 (grid0.coords t)) S1x2048x768.size (k0_off6_inb (grid0.coords t) h)) (fun _ => rfl)).squeeze S2048x768 squeezes_S1x2048x768_S2048x768 = outTile (sl 4 t.val) :=
  outTile_of (off6_at t) _
@[sl_canon] theorem name_off5_out (t : Fin grid0.N) (h : k0_cond3 (grid0.coords t) = 1#1) :
    yM.slice (Rect.unit (s := S16384x768) (k0_off5 (grid0.coords t)) S2048x768.size (k0_off5_inb (grid0.coords t) h)) (fun _ => rfl) = outPiece (bk 8 (t.val - 4)) :=
  outPiece_of (off5_at t ((behind_iff t).mp h)) _

/-! ## Slots and blocks as numbers -/

theorem sl_lit (p : ℕ) (j : Fin 4) (h : p % 4 = j.val) : (![j.val] : Fin 1 → ℕ) = ![(sl 4 p).val] := by
  rw [show (sl 4 p).val = p % 4 from rfl, h]
theorem sl_lit3 (p : ℕ) (j : Fin 4) (h : p % 4 = j.val) : (![j.val, 0, 0] : Fin 3 → ℕ) = ![(sl 4 p).val, 0, 0] := by
  rw [show (sl 4 p).val = p % 4 from rfl, h]
theorem bk_lit (p n : ℕ) (hp : p < 8) (h : n = 2048 * p) : (![n, 0] : Fin 2 → ℕ) = ![2048 * (bk 8 p).val, 0] := by
  rw [show (bk 8 p).val = p % 8 from rfl, Nat.mod_eq_of_lt hp, h]

end Cert.KernelIdeal.Hand

end
-- ==== Proof.Tile.lean ====
/- What the body computes of one block of rows, and why the copy it starts leaves that in the result's piece. -/
module

public import proofs.«01_k».proof.Proof.Rings
public import Idealize.ShloMosaic.Lib.Pipeline.Value
public import Idealize.ShloMosaic.Lib.WholeRead
public import Idealize.ShloMosaic.Lib.ViewIndex

@[expose] public section

set_option maxRecDepth 16384

noncomputable section

namespace Cert.KernelIdeal.Hand

open Idealize.ShloMosaic Idealize.ShloMosaic.TcCoe Idealize.ShloMosaic.Tactic
open Idealize.ShloMosaic.Ring (sl bk)
open Cert.KernelIdeal.Gen

variable {F : FTy → Type} [FloatOps F]

/-- The body's rows: `tanh (x · w + b)`, on a block of 2048 rows. -/
def tileOf (x : FVec F S2048x768 .f32) (w : FVec F S768x768 .f32) (b : FVec F S1x768 .f32) : FVec F S2048x768 .f32 :=
  tanh (addf (matmul dot_S2048x768_S768x768_S2048x768_1_0_0_1_n_n none x w (constant S2048x768 .f32 0x00000000#32))
    (broadcastTo S2048x768 (shapeCast S1x768 b shapeCasts_S1x768_S1x768) broadcasts_S1x768_S2048x768))

/-- Block `u` of the rows of `x`. -/
def rowsOf (x : FVec F S16384x768 .f32) (u : Fin 8) : FVec F S2048x768 .f32 :=
  (inBlock u).view.read (Elt F) x

/-- The whole result, block by block. -/
def wanted (x : FVec F S16384x768 .f32) (w : FVec F S768x768 .f32) (b : FVec F S1x768 .f32) : FVec F S16384x768 .f32 := fun i =>
  tileOf (rowsOf x ⟨(i 0).val / 2048, Nat.div_lt_of_lt_mul (i 0).isLt⟩) w b
    (fun a => match a with
      | ⟨0, _⟩ => (⟨(i 0).val % 2048, Nat.mod_lt _ (by decide)⟩ : Fin 2048)
      | ⟨1, _⟩ => (⟨(i 1).val, (i 1).isLt⟩ : Fin 768))

/-- The payload the body stores is those rows with a leading axis of one. -/
theorem pay_eq (v : FVec F S1x2048x768 .f32) (w : FVec F S768x768 .f32) (b : FVec F S1x768 .f32) :
    k0_pay1 v w b = shapeCast S1x2048x768 (tileOf (shapeCast S2048x768 v shapeCasts_S1x2048x768_S2048x768) w b) shapeCasts_S2048x768_S1x2048x768 := rfl

/-- Element `y` of piece `u` is row `2048 u + y 0`. -/
theorem outPiece_emb (u : Fin 8) (y : S2048x768.Idx) :
    ((show S16384x768.Idx from (outPiece u).view.emb y) 0).val = 2048 * u.val + (y 0).val
      ∧ ((show S16384x768.Idx from (outPiece u).view.emb y) 1).val = (y 1).val := by
  constructor
  · show 2048 * u.val + 1 * (y 0).val = _; omega
  · show 0 + 1 * (y 1).val = _; omega
theorem inBlock_emb (u : Fin 8) (y : S2048x768.Idx) :
    ((show S16384x768.Idx from (inBlock u).view.emb y) 0).val = 2048 * u.val + (y 0).val
      ∧ ((show S16384x768.Idx from (inBlock u).view.emb y) 1).val = (y 1).val := by
  constructor
  · show 2048 * u.val + 1 * (y 0).val = _; omega
  · show 0 + 1 * (y 1).val = _; omega

/-- The wanted result at an element of piece `u`. -/
theorem wanted_emb (x : FVec F S16384x768 .f32) (w : FVec F S768x768 .f32) (b : FVec F S1x768 .f32) (u : Fin 8) (y : S2048x768.Idx) :
    wanted x w b (show S16384x768.Idx from (outPiece u).view.emb y) = tileOf (rowsOf x u) w b y := by
  obtain ⟨h0, h1⟩ := outPiece_emb u y
  have hy : (y 0).val < 2048 := (y 0).isLt
  unfold wanted
  have eu : ∀ h, (⟨((show S16384x768.Idx from (outPiece u).view.emb y) 0).val / 2048, h⟩ : Fin 8) = u := by
    intro h; apply Fin.ext; show _ / 2048 = u.val; rw [h0]; omega
  rw [eu]
  congr 1
  funext a
  match a with
  | ⟨0, _⟩ => exact Fin.ext (by show _ % 2048 = _; rw [h0]; show _ = (y 0).val; omega)
  | ⟨1, _⟩ => exact Fin.ext h1

/-- Reading a piece is reading the array at the piece's elements. -/
theorem outPiece_read (c : Dev nD) (u : Fin 8) (f : BufOf (F := F) c (outPiece u)) (y : S2048x768.Idx) :
    (outPiece u).view.read (Elt F) f y = (show FVec F S16384x768 .f32 from f) (show S16384x768.Idx from (outPiece u).view.emb y) := rfl

/-- A piece that reads as the block's rows is right. -/
theorem right_of_read (c : Dev nD) (x : FVec F S16384x768 .f32) (w : FVec F S768x768 .f32) (b : FVec F S1x768 .f32) (u : Fin 8)
    (f : BufOf (F := F) c (outPiece u)) (h : ∀ y, (outPiece u).view.read (Elt F) f y = tileOf (rowsOf x u) w b y) :
    Right c (show BufOf (F := F) c yM from wanted x w b) u f := by
  intro i hi
  obtain ⟨y, -, e⟩ := Finset.mem_map.mp hi
  have e' : (show S16384x768.Idx from (outPiece u).view.emb y) = i := e
  rw [← e']
  exact (outPiece_read c u f y).symm.trans ((h y).trans (wanted_emb x w b u y).symm)

/-- A piece that a whole tile was copied into is right when the tile holds the block's rows. -/
theorem right_of_tile (c : Dev nD) (x : FVec F S16384x768 .f32) (w : FVec F S768x768 .f32) (b : FVec F S1x768 .f32) (u : Fin 8)
    (f : BufOf (F := F) c (outPiece u)) (v : FVec F S2048x768 .f32) (hv : v = tileOf (rowsOf x u) w b) :
    Right c (show BufOf (F := F) c yM from wanted x w b) u ((outPiece u).view.writes (Elt F) f [⟨Rect.whole S2048x768, v⟩]) := by
  subst hv
  exact right_of_read c x w b u _ fun y => congrFun (View.read_writes_whole (outPiece u).view f _) y

/-- The block as the body loads it from the slot it landed in. -/
theorem load_landed (g : Fin 4) {off : Fin 3 → ℕ} (h : off = ![g.val, 0, 0]) (inb) (c : Dev nD) (f : BufOf (F := F) c (inSlot g)) (v : FVec F S2048x768 .f32) :
    shapeCast S2048x768 (inM.view.readAt (Elt F) (Rect.unit (s := S4x2048x768) off S1x2048x768.size inb).toLoadRect
      ((inSlot g).view.writes (Elt F) f [⟨Rect.whole S2048x768, v⟩])) shapeCasts_S1x2048x768_S2048x768 = v := by
  subst h
  exact View.read_writes_whole (inSlot g).view f v

/-- Reading a tile is reading its box and dropping the axis of one. -/
theorem outTile_read (g : Fin 4) (c : Dev nD) (f : BufOf (F := F) c (outTile g)) :
    (outTile g).view.read (Elt F) f
      = shapeCast S2048x768 ((outM.access (Rect.unit (s := S4x2048x768) ![g.val, 0, 0] S1x2048x768.size (slot_inb g))).read (Elt F) f) shapeCasts_S1x2048x768_S2048x768 := rfl

/-- The tile read back after the body's store. -/
theorem read_stored (g : Fin 4) {off : Fin 3 → ℕ} (h : off = ![g.val, 0, 0]) (inb) (c : Dev nD) (f : BufOf (F := F) c (outTile g)) (v : FVec F S1x2048x768 .f32) :
    (outTile g).view.read (Elt F) ((outM.access (Rect.unit (s := S4x2048x768) off S1x2048x768.size inb)).write (Elt F) f v Finset.univ)
      = shapeCast S2048x768 v shapeCasts_S1x2048x768_S2048x768 := by
  subst h
  refine (outTile_read g c _).trans ?_
  exact congrArg (fun v => shapeCast S2048x768 v shapeCasts_S1x2048x768_S2048x768)
    (View.read_write_univ (Val := Elt F) (v := outM.access (Rect.unit (s := S4x2048x768) ![g.val, 0, 0] S1x2048x768.size (slot_inb g)))
      (show BufTy.Contents (Elt F) (outM.access (Rect.unit (s := S4x2048x768) ![g.val, 0, 0] S1x2048x768.size (slot_inb g))).ty from f) v)

/-- The tile the body stores, copied out whole, makes the piece right. -/
theorem right_of_run (c : Dev nD) (x : FVec F S16384x768 .f32) (w : FVec F S768x768 .f32) (b : FVec F S1x768 .f32) (u : Fin 8) (g : Fin 4)
    {off : Fin 3 → ℕ} (h : off = ![g.val, 0, 0]) (inb) (inb') (f : BufOf (F := F) c (outPiece u)) (fe : BufOf (F := F) c (outTile g)) (fi : BufOf (F := F) c (inSlot g))
    {w' : FVec F S768x768 .f32} {b' : FVec F S1x768 .f32} (hw : w' = w) (hb : b' = b) :
    Right c (show BufOf (F := F) c yM from wanted x w b) u ((outPiece u).view.writes (Elt F) f [⟨Rect.whole S2048x768,
      ReadAs.same.apply ((outTile g).view.read (Elt F) ((outM.access (Rect.unit (s := S4x2048x768) off S1x2048x768.size inb)).write (Elt F) fe
        (k0_pay1 (inM.view.readAt (Elt F) (Rect.unit (s := S4x2048x768) off S1x2048x768.size inb').toLoadRect
          ((inSlot g).view.writes (Elt F) fi [⟨Rect.whole S2048x768, ReadAs.same.apply ((inBlock u).view.read (Elt F) x)⟩])) w' b') Finset.univ))⟩]) := by
  subst hw hb
  refine right_of_tile c x _ _ u f _ ?_
  refine (read_stored g h inb c fe _).trans ?_
  rw [pay_eq, shapeCast_shapeCast]
  exact congrArg (fun v => tileOf v w' b') (load_landed g h inb' c fi _)

end Cert.KernelIdeal.Hand

end
-- ==== Proof.Body.lean ====
/- The body's run at a point, case by case of the branches it takes there. -/
module

public import proofs.«01_k».proof.Proof.Names
public import proofs.«01_k».proof.Proof.Tile
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (sl bk)
open Cert.KernelIdeal.Gen

variable {F : FTy → Type} [FloatOps F]

local notation "𝕄" => MT nD τ sig Unit (Elt F) ℕ (Pipeline.UD sig nD τ) ℕ

/-- A staging memref loaded whole is what it holds. -/
theorem load_w {arg : Memref sig .tc .vmem S768x768 .f32} (h : arg.IsWhole) (x : Vec F S768x768 .f32) (inb) :
    arg.view.readAt (Elt F) (Rect.unit (s := S768x768) ![0, 0] S768x768.size inb).toLoadRect (h.unread x) = x := by
  rw [View.readAt_full, h.read_unread]
theorem load_b {arg : Memref sig .tc .vmem S1x768 .f32} (h : arg.IsWhole) (x : Vec F S1x768 .f32) (inb) :
    arg.view.readAt (Elt F) (Rect.unit (s := S1x768) ![0, 0] S1x768.size inb).toLoadRect (h.unread x) = x := by
  rw [View.readAt_full, h.read_unread]

/-- The result the body is to leave, over what the rows' array and the two windows hold. -/
abbrev goalOf (c : Dev nD) (W : BufOf (F := F) c xM) (x0 : Vec F S768x768 .f32) (x1 : Vec F S1x768 .f32) : BufOf (F := F) c yM := wanted (F := F) W x0 x1

/-- The body's run at point `t`, to `Q`. -/
abbrev BodyRuns (c : Dev nD) (t : Fin grid0.N) (arg2 : Memref sig .tc .vmem S768x768 .f32) (harg2 : arg2.IsWhole) (arg3 : Memref sig .tc .vmem S1x768 .f32)
    (harg3 : arg3.IsWhole) (K : PUnit → sProp 𝕄) : sProp 𝕄 :=
  wp frame (wpE (defs₀ (F := F)) Variants.none c none) Set.univ (cc0_body (grid0.coords t) (Memref.whole main_v0) (Memref.isWhole_whole _) arg2 harg2 arg3 harg3 (Memref.whole main_v2) (Memref.isWhole_whole _) inM (Memref.isWhole_whole _) outM (Memref.isWhole_whole _) cc0_scratch2 cc0_scratch3) K

set_option maxHeartbeats 1000000 in
/-- Points 1 to 3: the block three ahead is started, the block's own copy waited for, its rows computed and their copy
    started from a tile still free. -/
theorem run_boot (c : Dev nD) (t : Fin grid0.N) (arg2 : Memref sig .tc .vmem S768x768 .f32) (harg2 : arg2.IsWhole) (arg3 : Memref sig .tc .vmem S1x768 .f32)
    (harg3 : arg3.IsWhole) (ht0 : 1 ≤ t.val) (ht : t.val < 4) (x0 : Vec F S768x768 .f32) (x1 : Vec F S1x768 .f32)
    (W : BufOf (F := F) c xM) (S : Waits sig Unit) (K : PUnit → sProp 𝕄) :
    iprop(owns (c : Thread nD τ) arg2 fullShare x0 ∗ owns (c : Thread nD τ) arg3 fullShare x1
        ∗ blockP c W (bk 8 (t.val + 3))
        ∗ Ring.inflight (inFlight c W) (sl 4 t.val) (bk 8 t.val)
        ∗ Ring.free (inCellP (F := F) c) (slotP c) (sl 4 (t.val + 3))
        ∗ todoP c (bk 8 t.val)
        ∗ freeP c (sl 4 t.val) ∗ owes (c : Thread nD τ) 0 S
        ∗ (iprop(owns (c : Thread nD τ) arg2 fullShare x0 ∗ owns (c : Thread nD τ) arg3 fullShare x1
            ∗ blockP c W (bk 8 t.val)
            ∗ Ring.inflight (inFlight c W) (sl 4 (t.val + 3)) (bk 8 (t.val + 3))
            ∗ Ring.free (inCellP (F := F) c) (slotP c) (sl 4 t.val)
            ∗ flyP c (goalOf c W x0 x1) (sl 4 t.val) (bk 8 t.val) ∗ (∃ S', owes (c : Thread nD τ) 0 S')) -∗ K ⟨⟩))
      ⊢ BodyRuns c t arg2 harg2 arg3 harg3 K := by
  have hc0 : ¬ isFirst (grid0.coords t) := fun h => by have := (isFirst_iff t).mp h; omega
  have hc1 : k0_cond2 (grid0.coords t) = 1#1 := (ahead_iff t).mpr (by omega)
  have hc2 : ¬ k0_cond3 (grid0.coords t) = 1#1 := fun h => by have := (behind_iff t).mp h; omega
  have hc3 : ¬ isLast (grid0.coords t) := fun h => by have := (isLast_iff t).mp h; omega
  haveI : Fact (k0_cond2 (grid0.coords t) = 1#1) := ⟨hc1⟩
  unfold BodyRuns
  simp only [cc0_body_eq_skeleton]; unfold cc0_body_skel
  simp only [k0_part1_eq_skeleton]
  unfold owns Ring.inflight Ring.free todoP freeP flyP
  iintro ⟨⟨%f2, %hf2, H2⟩, ⟨%f3, %hf3, H3⟩, HB, ⟨%fi, HI⟩, ⟨HC, ⟨%fs, HS⟩⟩, ⟨%fp, HP⟩, ⟨HQ, ⟨%fe, HE⟩⟩, HW, Hk⟩
  obtain rfl := harg2.eq_unread hf2; obtain rfl := harg3.eq_unread hf3
  sl_exec (disch := first | sl_exact hc0 | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [HI_src]; · iexact HI_src
  isplitl [HC]; · iexists _; iexact HC
  isplitl [HI HI_dst]
  · isplitl [HI]; · iexact HI
    iexists _; iexact HI_dst
  isplitl [HQ]
  · iexists _, _; isplitr [HQ]; rotate_left; · iexact HQ
    ipureintro
    unfold run_boot.sl.dma5 run_boot.sl.HE_w1 run_boot.sl.v19
    exact right_of_run c W x0 x1 _ _ (off10_at t) _ _ fp fe _ (load_w harg2 x0 _) (load_b harg3 x1 _)
  iexists _; iexact HW

set_option maxHeartbeats 1000000 in
/-- Point 4: as before, and the copy out of the tile, four points old, is waited for before the tile is packed again. -/
theorem run_mid (c : Dev nD) (t : Fin grid0.N) (arg2 : Memref sig .tc .vmem S768x768 .f32) (harg2 : arg2.IsWhole) (arg3 : Memref sig .tc .vmem S1x768 .f32)
    (harg3 : arg3.IsWhole) (ht0 : t.val = 4) (x0 : Vec F S768x768 .f32) (x1 : Vec F S1x768 .f32)
    (W : BufOf (F := F) c xM) (S : Waits sig Unit) (K : PUnit → sProp 𝕄) :
    iprop(owns (c : Thread nD τ) arg2 fullShare x0 ∗ owns (c : Thread nD τ) arg3 fullShare x1
        ∗ blockP c W (bk 8 (t.val + 3))
        ∗ Ring.inflight (inFlight c W) (sl 4 t.val) (bk 8 t.val)
        ∗ Ring.free (inCellP (F := F) c) (slotP c) (sl 4 (t.val + 3))
        ∗ todoP c (bk 8 t.val)
        ∗ flyP c (goalOf c W x0 x1) (sl 4 t.val) (bk 8 (t.val - 4)) ∗ owes (c : Thread nD τ) 0 S
        ∗ (iprop(owns (c : Thread nD τ) arg2 fullShare x0 ∗ owns (c : Thread nD τ) arg3 fullShare x1
            ∗ blockP c W (bk 8 t.val)
            ∗ Ring.inflight (inFlight c W) (sl 4 (t.val + 3)) (bk 8 (t.val + 3))
            ∗ Ring.free (inCellP (F := F) c) (slotP c) (sl 4 t.val)
            ∗ doneP c (goalOf c W x0 x1) (bk 8 (t.val - 4))
            ∗ flyP c (goalOf c W x0 x1) (sl 4 t.val) (bk 8 t.val) ∗ (∃ S', owes (c : Thread nD τ) 0 S')) -∗ K ⟨⟩))
      ⊢ BodyRuns c t arg2 harg2 arg3 harg3 K := by
  have hc0 : ¬ isFirst (grid0.coords t) := fun h => by have := (isFirst_iff t).mp h; omega
  have hc1 : k0_cond2 (grid0.coords t) = 1#1 := (ahead_iff t).mpr (by omega)
  have hc2 : k0_cond3 (grid0.coords t) = 1#1 := (behind_iff t).mpr (by omega)
  have hc3 : ¬ isLast (grid0.coords t) := fun h => by have := (isLast_iff t).mp h; omega
  haveI : Fact (k0_cond2 (grid0.coords t) = 1#1) := ⟨hc1⟩
  haveI : Fact (k0_cond3 (grid0.coords t) = 1#1) := ⟨hc2⟩
  unfold BodyRuns
  simp only [cc0_body_eq_skeleton]; unfold cc0_body_skel
  simp only [k0_part1_eq_skeleton]
  unfold owns Ring.inflight Ring.free todoP flyP doneP
  iintro ⟨⟨%f2, %hf2, H2⟩, ⟨%f3, %hf3, H3⟩, HB, ⟨%fi, HI⟩, ⟨HC, ⟨%fs, HS⟩⟩, ⟨%fp, HP⟩, ⟨%fq, %fe, %hq, HQ⟩, HW, Hk⟩
  obtain rfl := harg2.eq_unread hf2; obtain rfl := harg3.eq_unread hf3
  sl_exec (disch := first | sl_exact hc0 | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [HI_src]; · iexact HI_src
  isplitl [HC]; · iexists _; iexact HC
  isplitl [HI HI_dst]
  · isplitl [HI]; · iexact HI
    iexists _; iexact HI_dst
  isplitl [HQ_dst]
  · iexists _; isplitr [HQ_dst]; rotate_left; · iexact HQ_dst
    ipureintro; exact hq
  isplitl [HQ]
  · iexists _, _; isplitr [HQ]; rotate_left; · iexact HQ
    ipureintro
    unfold run_mid.sl.dma5 run_mid.sl.HQ_src_w1 run_mid.sl.v19
    exact right_of_run c W x0 x1 _ _ (off10_at t) _ _ fp fe _ (load_w harg2 x0 _) (load_b harg3 x1 _)
  iexists _; iexact HW

set_option maxHeartbeats 1000000 in
/-- Points 5 and 6: no block is left to start. -/
theorem run_tail (c : Dev nD) (t : Fin grid0.N) (arg2 : Memref sig .tc .vmem S768x768 .f32) (harg2 : arg2.IsWhole) (arg3 : Memref sig .tc .vmem S1x768 .f32)
    (harg3 : arg3.IsWhole) (ht0 : 5 ≤ t.val) (ht : t.val < 7) (x0 : Vec F S768x768 .f32) (x1 : Vec F S1x768 .f32)
    (W : BufOf (F := F) c xM) (S : Waits sig Unit) (K : PUnit → sProp 𝕄) :
    iprop(owns (c : Thread nD τ) arg2 fullShare x0 ∗ owns (c : Thread nD τ) arg3 fullShare x1
        ∗ Ring.inflight (inFlight c W) (sl 4 t.val) (bk 8 t.val)
        ∗ todoP c (bk 8 t.val)
        ∗ flyP c (goalOf c W x0 x1) (sl 4 t.val) (bk 8 (t.val - 4)) ∗ owes (c : Thread nD τ) 0 S
        ∗ (iprop(owns (c : Thread nD τ) arg2 fullShare x0 ∗ owns (c : Thread nD τ) arg3 fullShare x1
            ∗ blockP c W (bk 8 t.val)
            ∗ Ring.free (inCellP (F := F) c) (slotP c) (sl 4 t.val)
            ∗ doneP c (goalOf c W x0 x1) (bk 8 (t.val - 4))
            ∗ flyP c (goalOf c W x0 x1) (sl 4 t.val) (bk 8 t.val) ∗ (∃ S', owes (c : Thread nD τ) 0 S')) -∗ K ⟨⟩))
      ⊢ BodyRuns c t arg2 harg2 arg3 harg3 K := by
  have hc0 : ¬ isFirst (grid0.coords t) := fun h => by have := (isFirst_iff t).mp h; omega
  have hc1 : ¬ k0_cond2 (grid0.coords t) = 1#1 := fun h => by have := (ahead_iff t).mp h; omega
  have hc2 : k0_cond3 (grid0.coords t) = 1#1 := (behind_iff t).mpr (by omega)
  have hc3 : ¬ isLast (grid0.coords t) := fun h => by have := (isLast_iff t).mp h; omega
  haveI : Fact (k0_cond3 (grid0.coords t) = 1#1) := ⟨hc2⟩
  unfold BodyRuns
  simp only [cc0_body_eq_skeleton]; unfold cc0_body_skel
  simp only [k0_part1_eq_skeleton]
  unfold owns Ring.inflight Ring.free todoP flyP doneP
  iintro ⟨⟨%f2, %hf2, H2⟩, ⟨%f3, %hf3, H3⟩, ⟨%fi, HI⟩, ⟨%fp, HP⟩, ⟨%fq, %fe, %hq, HQ⟩, HW, Hk⟩
  obtain rfl := harg2.eq_unread hf2; obtain rfl := harg3.eq_unread hf3
  sl_exec (disch := first | sl_exact hc0 | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [HI_src]; · iexact HI_src
  isplitl [HI HI_dst]
  · isplitl [HI]; · iexact HI
    iexists _; iexact HI_dst
  isplitl [HQ_dst]
  · iexists _; isplitr [HQ_dst]; rotate_left; · iexact HQ_dst
    ipureintro; exact hq
  isplitl [HQ]
  · iexists _, _; isplitr [HQ]; rotate_left; · iexact HQ
    ipureintro
    unfold run_tail.sl.dma5 run_tail.sl.HQ_src_w1 run_tail.sl.v19
    exact right_of_run c W x0 x1 _ _ (off10_at t) _ _ fp fe _ (load_w harg2 x0 _) (load_b harg3 x1 _)
  iexists _; iexact HW

set_option maxHeartbeats 2000000 in
/-- Point 0: the first three blocks are started, then the fourth, and the point goes on as the next three do. -/
theorem run_first (c : Dev nD) (t : Fin grid0.N) (arg2 : Memref sig .tc .vmem S768x768 .f32) (harg2 : arg2.IsWhole) (arg3 : Memref sig .tc .vmem S1x768 .f32)
    (harg3 : arg3.IsWhole) (ht0 : t.val = 0) (x0 : Vec F S768x768 .f32) (x1 : Vec F S1x768 .f32)
    (W : BufOf (F := F) c xM) (S : Waits sig Unit) (K : PUnit → sProp 𝕄) :
    iprop(owns (c : Thread nD τ) arg2 fullShare x0 ∗ owns (c : Thread nD τ) arg3 fullShare x1
        ∗ blockP c W (bk 8 t.val)
        ∗ blockP c W (bk 8 (t.val + 1))
        ∗ blockP c W (bk 8 (t.val + 2))
        ∗ blockP c W (bk 8 (t.val + 3))
        ∗ Ring.free (inCellP (F := F) c) (slotP c) (sl 4 t.val)
        ∗ Ring.free (inCellP (F := F) c) (slotP c) (sl 4 (t.val + 1))
        ∗ Ring.free (inCellP (F := F) c) (slotP c) (sl 4 (t.val + 2))
        ∗ Ring.free (inCellP (F := F) c) (slotP c) (sl 4 (t.val + 3))
        ∗ todoP c (bk 8 t.val)
        ∗ freeP c (sl 4 t.val) ∗ owes (c : Thread nD τ) 0 S
        ∗ (iprop(owns (c : Thread nD τ) arg2 fullShare x0 ∗ owns (c : Thread nD τ) arg3 fullShare x1
            ∗ blockP c W (bk 8 t.val)
            ∗ Ring.inflight (inFlight c W) (sl 4 (t.val + 1)) (bk 8 (t.val + 1))
            ∗ Ring.inflight (inFlight c W) (sl 4 (t.val + 2)) (bk 8 (t.val + 2))
            ∗ Ring.inflight (inFlight c W) (sl 4 (t.val + 3)) (bk 8 (t.val + 3))
            ∗ Ring.free (inCellP (F := F) c) (slotP c) (sl 4 t.val)
            ∗ flyP c (goalOf c W x0 x1) (sl 4 t.val) (bk 8 t.val) ∗ (∃ S', owes (c : Thread nD τ) 0 S')) -∗ K ⟨⟩))
      ⊢ BodyRuns c t arg2 harg2 arg3 harg3 K := by
  have hc0 : isFirst (grid0.coords t) := (isFirst_iff t).mpr (by omega)
  have hc1 : k0_cond2 (grid0.coords t) = 1#1 := (ahead_iff t).mpr (by omega)
  have hc2 : ¬ k0_cond3 (grid0.coords t) = 1#1 := fun h => by have := (behind_iff t).mp h; omega
  have hc3 : ¬ isLast (grid0.coords t) := fun h => by have := (isLast_iff t).mp h; omega
  haveI : Fact (k0_cond2 (grid0.coords t) = 1#1) := ⟨hc1⟩
  have hcanonS0 : (cc0_scratch2.slice (Rect.unit (s := S4) ![0] S1.size inb_S4_S1_0)).squeeze S_ squeezes_S1_S_ = inSem (sl 4 t.val) :=
    inSem_of (sl_lit _ 0 (by omega)) _
  have hcanonM0 : (inM.slice (Rect.unit (s := S4x2048x768) ![0, 0, 0] S1x2048x768.size inb_S4x2048x768_S1x2048x768_0_0_0) (fun _ => rfl)).squeeze S2048x768 squeezes_S1x2048x768_S2048x768 = inSlot (sl 4 t.val) :=
    inSlot_of (sl_lit3 _ 0 (by omega)) _
  have hcanonB0 : xM.slice (Rect.unit (s := S16384x768) ![0, 0] S2048x768.size inb_S16384x768_S2048x768_0_0) (fun _ => rfl) = inBlock (bk 8 t.val) :=
    inBlock_of (bk_lit _ _ (by omega) (by omega)) _
  have hcanonS1 : (cc0_scratch2.slice (Rect.unit (s := S4) ![1] S1.size inb_S4_S1_1)).squeeze S_ squeezes_S1_S_ = inSem (sl 4 (t.val + 1)) :=
    inSem_of (sl_lit _ 1 (by omega)) _
  have hcanonM1 : (inM.slice (Rect.unit (s := S4x2048x768) ![1, 0, 0] S1x2048x768.size inb_S4x2048x768_S1x2048x768_1_0_0) (fun _ => rfl)).squeeze S2048x768 squeezes_S1x2048x768_S2048x768 = inSlot (sl 4 (t.val + 1)) :=
    inSlot_of (sl_lit3 _ 1 (by omega)) _
  have hcanonB1 : xM.slice (Rect.unit (s := S16384x768) ![2048, 0] S2048x768.size inb_S16384x768_S2048x768_2048_0) (fun _ => rfl) = inBlock (bk 8 (t.val + 1)) :=
    inBlock_of (bk_lit _ _ (by omega) (by omega)) _
  have hcanonS2 : (cc0_scratch2.slice (Rect.unit (s := S4) ![2] S1.size inb_S4_S1_2)).squeeze S_ squeezes_S1_S_ = inSem (sl 4 (t.val + 2)) :=
    inSem_of (sl_lit _ 2 (by omega)) _
  have hcanonM2 : (inM.slice (Rect.unit (s := S4x2048x768) ![2, 0, 0] S1x2048x768.size inb_S4x2048x768_S1x2048x768_2_0_0) (fun _ => rfl)).squeeze S2048x768 squeezes_S1x2048x768_S2048x768 = inSlot (sl 4 (t.val + 2)) :=
    inSlot_of (sl_lit3 _ 2 (by omega)) _
  have hcanonB2 : xM.slice (Rect.unit (s := S16384x768) ![4096, 0] S2048x768.size inb_S16384x768_S2048x768_4096_0) (fun _ => rfl) = inBlock (bk 8 (t.val + 2)) :=
    inBlock_of (bk_lit _ _ (by omega) (by omega)) _
  unfold BodyRuns
  simp only [cc0_body_eq_skeleton]; unfold cc0_body_skel
  simp only [k0_part1_eq_skeleton]
  unfold owns Ring.inflight Ring.free todoP freeP flyP
  iintro ⟨⟨%f2, %hf2, H2⟩, ⟨%f3, %hf3, H3⟩, HB0, HB1, HB2, HB3, ⟨HC0, ⟨%fs0, HS0⟩⟩, ⟨HC1, ⟨%fs1, HS1⟩⟩, ⟨HC2, ⟨%fs2, HS2⟩⟩, ⟨HC3, ⟨%fs3, HS3⟩⟩, ⟨%fp, HP⟩, ⟨HQ, ⟨%fe, HE⟩⟩, HW, Hk⟩
  obtain rfl := harg2.eq_unread hf2; obtain rfl := harg3.eq_unread hf3
  sl_exec (disch := first | sl_exact hc0 | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [HB0]; · iexact HB0
  isplitl [HC1]; · iexists _; iexact HC1
  isplitl [HC2]; · iexists _; iexact HC2
  isplitl [HC3]; · iexists _; iexact HC3
  isplitl [HC0 HS0]
  · isplitl [HC0]; · iexact HC0
    iexists _; iexact HS0
  isplitl [HQ]
  · iexists _, _; isplitr [HQ]; rotate_left; · iexact HQ
    ipureintro
    unfold run_first.sl.dma5 run_first.sl.HE_w1 run_first.sl.v19 run_first.sl.dma0
    exact right_of_run c W x0 x1 _ _ (off10_at t) _ _ fp fe _ (load_w harg2 x0 _) (load_b harg3 x1 _)
  iexists _; iexact HW

set_option maxHeartbeats 2000000 in
/-- Point 7: the block is computed and its copy started, then the four copies left are waited for. -/
theorem run_last (c : Dev nD) (t : Fin grid0.N) (arg2 : Memref sig .tc .vmem S768x768 .f32) (harg2 : arg2.IsWhole) (arg3 : Memref sig .tc .vmem S1x768 .f32)
    (harg3 : arg3.IsWhole) (ht0 : t.val = 7) (x0 : Vec F S768x768 .f32) (x1 : Vec F S1x768 .f32)
    (W : BufOf (F := F) c xM) (S : Waits sig Unit) (K : PUnit → sProp 𝕄) :
    iprop(owns (c : Thread nD τ) arg2 fullShare x0 ∗ owns (c : Thread nD τ) arg3 fullShare x1
        ∗ Ring.inflight (inFlight c W) (sl 4 t.val) (bk 8 t.val)
        ∗ todoP c (bk 8 t.val)
        ∗ flyP c (goalOf c W x0 x1) (sl 4 t.val) (bk 8 (t.val - 4))
        ∗ flyP c (goalOf c W x0 x1) (sl 4 (t.val + 1)) (bk 8 (t.val - 3))
        ∗ flyP c (goalOf c W x0 x1) (sl 4 (t.val + 2)) (bk 8 (t.val - 2))
        ∗ flyP c (goalOf c W x0 x1) (sl 4 (t.val + 3)) (bk 8 (t.val - 1)) ∗ owes (c : Thread nD τ) 0 S
        ∗ (iprop(owns (c : Thread nD τ) arg2 fullShare x0 ∗ owns (c : Thread nD τ) arg3 fullShare x1
            ∗ blockP c W (bk 8 t.val)
            ∗ Ring.free (inCellP (F := F) c) (slotP c) (sl 4 t.val)
            ∗ doneP c (goalOf c W x0 x1) (bk 8 (t.val - 4))
            ∗ doneP c (goalOf c W x0 x1) (bk 8 (t.val - 3))
            ∗ freeP c (sl 4 (t.val + 1))
            ∗ doneP c (goalOf c W x0 x1) (bk 8 (t.val - 2))
            ∗ freeP c (sl 4 (t.val + 2))
            ∗ doneP c (goalOf c W x0 x1) (bk 8 (t.val - 1))
            ∗ freeP c (sl 4 (t.val + 3))
            ∗ doneP c (goalOf c W x0 x1) (bk 8 t.val)
            ∗ freeP c (sl 4 t.val) ∗ (∃ S', owes (c : Thread nD τ) 0 S')) -∗ K ⟨⟩))
      ⊢ BodyRuns c t arg2 harg2 arg3 harg3 K := by
  have hc0 : ¬ isFirst (grid0.coords t) := fun h => by have := (isFirst_iff t).mp h; omega
  have hc1 : ¬ k0_cond2 (grid0.coords t) = 1#1 := fun h => by have := (ahead_iff t).mp h; omega
  have hc2 : k0_cond3 (grid0.coords t) = 1#1 := (behind_iff t).mpr (by omega)
  have hc3 : isLast (grid0.coords t) := (isLast_iff t).mpr (by omega)
  haveI : Fact (k0_cond3 (grid0.coords t) = 1#1) := ⟨hc2⟩
  have hcanonS0 : (cc0_scratch3.slice (Rect.unit (s := S4) ![0] ![1] inb_S4_S1_0)).squeeze S_ squeezes_S1_S_ = outSem (sl 4 (t.val + 1)) :=
    outSem_of (sl_lit _ 0 (by omega)) _
  have hcanonM0 : (outM.slice (Rect.unit (s := S4x2048x768) ![0, 0, 0] ![1, 2048, 768] inb_S4x2048x768_S1x2048x768_0_0_0) (fun _ => rfl)).squeeze S2048x768 squeezes_S1x2048x768_S2048x768 = outTile (sl 4 (t.val + 1)) :=
    outTile_of (sl_lit3 _ 0 (by omega)) _
  have hcanonB0 : yM.slice (Rect.unit (s := S16384x768) ![8192, 0] ![2048, 768] inb_S16384x768_S2048x768_8192_0) (fun _ => rfl) = outPiece (bk 8 (t.val - 3)) :=
    outPiece_of (bk_lit _ _ (by omega) (by omega)) _
  have hcanonS1 : (cc0_scratch3.slice (Rect.unit (s := S4) ![1] ![1] inb_S4_S1_1)).squeeze S_ squeezes_S1_S_ = outSem (sl 4 (t.val + 2)) :=
    outSem_of (sl_lit _ 1 (by omega)) _
  have hcanonM1 : (outM.slice (Rect.unit (s := S4x2048x768) ![1, 0, 0] ![1, 2048, 768] inb_S4x2048x768_S1x2048x768_1_0_0) (fun _ => rfl)).squeeze S2048x768 squeezes_S1x2048x768_S2048x768 = outTile (sl 4 (t.val + 2)) :=
    outTile_of (sl_lit3 _ 1 (by omega)) _
  have hcanonB1 : yM.slice (Rect.unit (s := S16384x768) ![10240, 0] ![2048, 768] inb_S16384x768_S2048x768_10240_0) (fun _ => rfl) = outPiece (bk 8 (t.val - 2)) :=
    outPiece_of (bk_lit _ _ (by omega) (by omega)) _
  have hcanonS2 : (cc0_scratch3.slice (Rect.unit (s := S4) ![2] ![1] inb_S4_S1_2)).squeeze S_ squeezes_S1_S_ = outSem (sl 4 (t.val + 3)) :=
    outSem_of (sl_lit _ 2 (by omega)) _
  have hcanonM2 : (outM.slice (Rect.unit (s := S4x2048x768) ![2, 0, 0] ![1, 2048, 768] inb_S4x2048x768_S1x2048x768_2_0_0) (fun _ => rfl)).squeeze S2048x768 squeezes_S1x2048x768_S2048x768 = outTile (sl 4 (t.val + 3)) :=
    outTile_of (sl_lit3 _ 2 (by omega)) _
  have hcanonB2 : yM.slice (Rect.unit (s := S16384x768) ![12288, 0] ![2048, 768] inb_S16384x768_S2048x768_12288_0) (fun _ => rfl) = outPiece (bk 8 (t.val - 1)) :=
    outPiece_of (bk_lit _ _ (by omega) (by omega)) _
  have hcanonS3 : (cc0_scratch3.slice (Rect.unit (s := S4) ![3] ![1] inb_S4_S1_3)).squeeze S_ squeezes_S1_S_ = outSem (sl 4 t.val) :=
    outSem_of (sl_lit _ 3 (by omega)) _
  have hcanonM3 : (outM.slice (Rect.unit (s := S4x2048x768) ![3, 0, 0] ![1, 2048, 768] inb_S4x2048x768_S1x2048x768_3_0_0) (fun _ => rfl)).squeeze S2048x768 squeezes_S1x2048x768_S2048x768 = outTile (sl 4 t.val) :=
    outTile_of (sl_lit3 _ 3 (by omega)) _
  have hcanonB3 : yM.slice (Rect.unit (s := S16384x768) ![14336, 0] ![2048, 768] inb_S16384x768_S2048x768_14336_0) (fun _ => rfl) = outPiece (bk 8 t.val) :=
    outPiece_of (bk_lit _ _ (by omega) (by omega)) _
  unfold BodyRuns
  simp only [cc0_body_eq_skeleton]; unfold cc0_body_skel
  simp only [k0_part1_eq_skeleton]
  unfold owns Ring.inflight Ring.free todoP flyP doneP freeP
  iintro ⟨⟨%f2, %hf2, H2⟩, ⟨%f3, %hf3, H3⟩, ⟨%fi, HI⟩, ⟨%fp, HP⟩, ⟨%fq, %fe, %hq, HQ⟩, ⟨%fq1, %fe1, %hq1, HQ1⟩, ⟨%fq2, %fe2, %hq2, HQ2⟩, ⟨%fq3, %fe3, %hq3, HQ3⟩, HW, Hk⟩
  obtain rfl := harg2.eq_unread hf2; obtain rfl := harg3.eq_unread hf3
  sl_exec (disch := first | sl_exact hc0 | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [HI_src]; · iexact HI_src
  isplitl [HI HI_dst]
  · isplitl [HI]; · iexact HI
    iexists _; iexact HI_dst
  isplitl [HQ_dst]
  · iexists _; isplitr [HQ_dst]; rotate_left; · iexact HQ_dst
    ipureintro; exact hq
  isplitl [HQ1_dst]
  · iexists _; isplitr [HQ1_dst]; rotate_left; · iexact HQ1_dst
    ipureintro; exact hq1
  isplitl [HQ1 HQ1_src]
  · isplitl [HQ1]; · iexact HQ1
    iexists _; iexact HQ1_src
  isplitl [HQ2_dst]
  · iexists _; isplitr [HQ2_dst]; rotate_left; · iexact HQ2_dst
    ipureintro; exact hq2
  isplitl [HQ2 HQ2_src]
  · isplitl [HQ2]; · iexact HQ2
    iexists _; iexact HQ2_src
  isplitl [HQ3_dst]
  · iexists _; isplitr [HQ3_dst]; rotate_left; · iexact HQ3_dst
    ipureintro; exact hq3
  isplitl [HQ3 HQ3_src]
  · isplitl [HQ3]; · iexact HQ3
    iexists _; iexact HQ3_src
  isplitl [HP]
  · iexists _; isplitr [HP]; rotate_left; · iexact HP
    ipureintro
    unfold run_last.sl.dma5 run_last.sl.HQ_src_w1 run_last.sl.v19
    exact right_of_run c W x0 x1 _ _ (off10_at t) _ _ fp fe _ (load_w harg2 x0 _) (load_b harg3 x1 _)
  isplitl [HQ HQ_src]
  · isplitl [HQ]; · iexact HQ
    iexists _; iexact HQ_src
  iexists _; iexact HW

end Cert.KernelIdeal.Hand

end
-- ==== Proof.Step.lean ====
/- One point of the launch: from the two rings before the point to the two rings after it. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (sl bk)
open Cert.KernelIdeal.Gen

variable {F : FTy → Type} [FloatOps F]

local notation "𝕄" => MT nD τ sig Unit (Elt F) ℕ (Pipeline.UD sig nD τ) ℕ

/-- The body's triple at point `t`: both windows kept, both rings moved on by one. -/
abbrev StepAt (c : Dev nD) (t : Fin grid0.N) : Prop :=
  ∀ (arg2 : Memref sig .tc .vmem S768x768 .f32) (harg2 : arg2.IsWhole) (arg3 : Memref sig .tc .vmem S1x768 .f32)
    (harg3 : arg3.IsWhole) (x0 : Vec F S768x768 .f32) (x1 : Vec F S1x768 .f32)
    (W : BufOf (F := F) c xM) (S : Waits sig Unit) (K : PUnit → sProp 𝕄),
    iprop(owns (c : Thread nD τ) arg2 fullShare x0 ∗ owns (c : Thread nD τ) arg3 fullShare x1
        ∗ readRing c W t.val ∗ writeRing c (goalOf c W x0 x1) t.val ∗ owes (c : Thread nD τ) 0 S
        ∗ (iprop(owns (c : Thread nD τ) arg2 fullShare x0 ∗ owns (c : Thread nD τ) arg3 fullShare x1
            ∗ readRing c W (t.val + 1) ∗ writeRing c (goalOf c W x0 x1) (t.val + 1) ∗ (∃ S', owes (c : Thread nD τ) 0 S')) -∗ K ⟨⟩))
      ⊢ BodyRuns c t arg2 harg2 arg3 harg3 K

theorem step_first (c : Dev nD) (t : Fin grid0.N) (h : t.val = 0) : StepAt (F := F) c t := by
  intro arg2 harg2 arg3 harg3 x0 x1 W S K
  unfold readRing writeRing
  rw [if_pos h, if_neg (show ¬ t.val + 1 = 0 by omega), Ring.At₀_eq4' _ _ _ t.val h (by decide : 4 ≤ 8),
    Ring.At4_one' _ _ _ _ t.val h (by decide : 4 ≤ 8), WriteRing.at_boot _ _ _ _ t.val (by omega), WriteRing.at_boot_next _ _ _ _ t.val (by omega)]
  iintro ⟨H2, H3, ⟨⟨B0, B1, B2, B3, HB⟩, F0, F1, F2, F3⟩, ⟨⟨HT, HF⟩, HR⟩, HW, Hk⟩
  iapply (run_first c t arg2 harg2 arg3 harg3 h x0 x1 W S K)
  isplitl [H2]; · iexact H2
  isplitl [H3]; · iexact H3
  isplitl [B0]; · iexact B0
  isplitl [B1]; · iexact B1
  isplitl [B2]; · iexact B2
  isplitl [B3]; · iexact B3
  isplitl [F0]; · iexact F0
  isplitl [F1]; · iexact F1
  isplitl [F2]; · iexact F2
  isplitl [F3]; · iexact F3
  isplitl [HT]; · iexact HT
  isplitl [HF]; · iexact HF
  isplitl [HW]; · iexact HW
  iintro ⟨H2, H3, B0, I1, I2, I3, F0, HF, HW⟩
  iapply Hk
  isplitl [H2]; · iexact H2
  isplitl [H3]; · iexact H3
  isplitl [B0 HB I1 I2 I3 F0]
  · isplitl [B0 HB]
    · isplitl [B0]; · iexact B0
      iexact HB
    isplitl [I1]; · iexact I1
    isplitl [I2]; · iexact I2
    isplitl [I3]; · iexact I3
    iexact F0
  isplitl [HF HR]
  · isplitl [HF]; · iexact HF
    iexact HR
  iexact HW

theorem step_boot (c : Dev nD) (t : Fin grid0.N) (h0 : 1 ≤ t.val) (h : t.val < 4) : StepAt (F := F) c t := by
  intro arg2 harg2 arg3 harg3 x0 x1 W S K
  unfold readRing writeRing
  rw [if_neg (show ¬ t.val = 0 by omega), if_neg (show ¬ t.val + 1 = 0 by omega), Ring.At4_here _ _ _ _ t.val (by omega),
    Ring.At4_next _ _ _ _ t.val (by omega), Ring.slotAt4_next0 _ _ _ t.val (by omega), Ring.slotAt4_next1 _ _ _ t.val (by omega),
    Ring.slotAt4_next2 _ _ _ t.val (by omega), WriteRing.at_boot _ _ _ _ t.val h, WriteRing.at_boot_next _ _ _ _ t.val h]
  iintro ⟨H2, H3, ⟨⟨B3, HB⟩, I0, I1, I2, F3⟩, ⟨⟨HT, HF⟩, HR⟩, HW, Hk⟩
  iapply (run_boot c t arg2 harg2 arg3 harg3 h0 h x0 x1 W S K)
  isplitl [H2]; · iexact H2
  isplitl [H3]; · iexact H3
  isplitl [B3]; · iexact B3
  isplitl [I0]; · iexact I0
  isplitl [F3]; · iexact F3
  isplitl [HT]; · iexact HT
  isplitl [HF]; · iexact HF
  isplitl [HW]; · iexact HW
  iintro ⟨H2, H3, B0, I3, F0, HF, HW⟩
  iapply Hk
  isplitl [H2]; · iexact H2
  isplitl [H3]; · iexact H3
  isplitl [B0 HB I1 I2 I3 F0]
  · isplitl [B0 HB]
    · isplitl [B0]; · iexact B0
      iexact HB
    isplitl [I1]; · iexact I1
    isplitl [I2]; · iexact I2
    isplitl [I3]; · iexact I3
    iexact F0
  isplitl [HF HR]
  · isplitl [HF]; · iexact HF
    iexact HR
  iexact HW

theorem step_mid (c : Dev nD) (t : Fin grid0.N) (h : t.val = 4) : StepAt (F := F) c t := by
  intro arg2 harg2 arg3 harg3 x0 x1 W S K
  unfold readRing writeRing
  rw [if_neg (show ¬ t.val = 0 by omega), if_neg (show ¬ t.val + 1 = 0 by omega), Ring.At4_here _ _ _ _ t.val (by omega),
    Ring.At4_next _ _ _ _ t.val (by omega), Ring.slotAt4_next0 _ _ _ t.val (by omega), Ring.slotAt4_next1 _ _ _ t.val (by omega),
    Ring.slotAt4_next2 _ _ _ t.val (by omega), WriteRing.at_steady _ _ _ _ t.val (by omega) (by omega),
    WriteRing.at_steady_next _ _ _ _ t.val (by omega) (by omega)]
  iintro ⟨H2, H3, ⟨⟨B3, HB⟩, I0, I1, I2, F3⟩, ⟨HT, HF, HR⟩, HW, Hk⟩
  iapply (run_mid c t arg2 harg2 arg3 harg3 h x0 x1 W S K)
  isplitl [H2]; · iexact H2
  isplitl [H3]; · iexact H3
  isplitl [B3]; · iexact B3
  isplitl [I0]; · iexact I0
  isplitl [F3]; · iexact F3
  isplitl [HT]; · iexact HT
  isplitl [HF]; · iexact HF
  isplitl [HW]; · iexact HW
  iintro ⟨H2, H3, B0, I3, F0, HD, HF, HW⟩
  iapply Hk
  isplitl [H2]; · iexact H2
  isplitl [H3]; · iexact H3
  isplitl [B0 HB I1 I2 I3 F0]
  · isplitl [B0 HB]
    · isplitl [B0]; · iexact B0
      iexact HB
    isplitl [I1]; · iexact I1
    isplitl [I2]; · iexact I2
    isplitl [I3]; · iexact I3
    iexact F0
  isplitl [HF HD HR]
  · isplitl [HF]; · iexact HF
    isplitl [HD]; · iexact HD
    iexact HR
  iexact HW

theorem step_tail (c : Dev nD) (t : Fin grid0.N) (h0 : 5 ≤ t.val) (h : t.val < 7) : StepAt (F := F) c t := by
  intro arg2 harg2 arg3 harg3 x0 x1 W S K
  unfold readRing writeRing
  rw [if_neg (show ¬ t.val = 0 by omega), if_neg (show ¬ t.val + 1 = 0 by omega), Ring.At4_here_tail _ _ _ _ t.val (by omega),
    Ring.At4_next_tail _ _ _ _ t.val (by omega) (by omega), Ring.slotAt4_tail_role _ _ _ t.val, Ring.slotAt4_tail_role1 _ _ _ t.val,
    WriteRing.at_steady _ _ _ _ t.val (by omega) h, WriteRing.at_steady_next _ _ _ _ t.val (by omega) h]
  iintro ⟨H2, H3, ⟨HB, I0, I1, I2, F3⟩, ⟨HT, HF, HR⟩, HW, Hk⟩
  iapply (run_tail c t arg2 harg2 arg3 harg3 h0 h x0 x1 W S K)
  isplitl [H2]; · iexact H2
  isplitl [H3]; · iexact H3
  isplitl [I0]; · iexact I0
  isplitl [HT]; · iexact HT
  isplitl [HF]; · iexact HF
  isplitl [HW]; · iexact HW
  iintro ⟨H2, H3, B0, F0, HD, HF, HW⟩
  iapply Hk
  isplitl [H2]; · iexact H2
  isplitl [H3]; · iexact H3
  isplitl [B0 HB I1 I2 F3 F0]
  · isplitl [B0 HB]
    · isplitl [B0]; · iexact B0
      iexact HB
    isplitl [I1]; · iexact I1
    isplitl [I2]; · iexact I2
    isplitl [F3]; · iexact F3
    iexact F0
  isplitl [HF HD HR]
  · isplitl [HF]; · iexact HF
    isplitl [HD]; · iexact HD
    iexact HR
  iexact HW

theorem step_last (c : Dev nD) (t : Fin grid0.N) (h : t.val = 7) : StepAt (F := F) c t := by
  intro arg2 harg2 arg3 harg3 x0 x1 W S K
  unfold readRing writeRing
  rw [if_neg (show ¬ t.val = 0 by omega), if_neg (show ¬ t.val + 1 = 0 by omega), Ring.At4_here_tail _ _ _ _ t.val (by omega),
    Ring.At4_next_tail _ _ _ _ t.val (by omega) (by omega), Ring.slotAt4_tail_role _ _ _ t.val, Ring.slotAt4_tail_role1 _ _ _ t.val,
    WriteRing.at_last _ _ _ _ t.val h, WriteRing.at_drained _ _ _ _ t.val h]
  iintro ⟨H2, H3, ⟨HB, I0, I1, I2, F3⟩, ⟨D7, D6, D5, L4, L3, L2, L1, HT⟩, HW, Hk⟩
  iapply (run_last c t arg2 harg2 arg3 harg3 h x0 x1 W S K)
  isplitl [H2]; · iexact H2
  isplitl [H3]; · iexact H3
  isplitl [I0]; · iexact I0
  isplitl [HT]; · iexact HT
  isplitl [L4]; · iexact L4
  isplitl [L3]; · iexact L3
  isplitl [L2]; · iexact L2
  isplitl [L1]; · iexact L1
  isplitl [HW]; · iexact HW
  iintro ⟨H2, H3, B0, F0, D4, D3, G1, D2, G2, D1, G3, D0, G0, HW⟩
  iapply Hk
  isplitl [H2]; · iexact H2
  isplitl [H3]; · iexact H3
  isplitl [B0 HB I1 I2 F3 F0]
  · isplitl [B0 HB]
    · isplitl [B0]; · iexact B0
      iexact HB
    isplitl [I1]; · iexact I1
    isplitl [I2]; · iexact I2
    isplitl [F3]; · iexact F3
    iexact F0
  isplitl [D7 D6 D5 D4 D3 G1 D2 G2 D1 G3 D0 G0]
  · isplitl [D7]; · iexact D7
    isplitl [D6]; · iexact D6
    isplitl [D5]; · iexact D5
    isplitl [D4]; · iexact D4
    isplitl [D3 G1]
    · isplitl [D3]; · iexact D3
      iexact G1
    isplitl [D2 G2]
    · isplitl [D2]; · iexact D2
      iexact G2
    isplitl [D1 G3]
    · isplitl [D1]; · iexact D1
      iexact G3
    isplitl [D0]; · iexact D0
    iexact G0
  iexact HW

/-- Every point is one of the five. -/
theorem step_at (c : Dev nD) (t : Fin grid0.N) : StepAt (F := F) c t := by
  have h8 : t.val < 8 := t.isLt
  rcases (show t.val = 0 ∨ (1 ≤ t.val ∧ t.val < 4) ∨ t.val = 4 ∨ (5 ≤ t.val ∧ t.val < 7) ∨ t.val = 7 by omega) with h | h | h | h | h
  · exact step_first c t h
  · exact step_boot c t h.1 h.2
  · exact step_mid c t h
  · exact step_tail c t h.1 h.2
  · exact step_last c t h

end Cert.KernelIdeal.Hand

end
-- ==== Proof.Launch.lean ====
/- The launch: the proof data of the pipeline, the body's obligation at every point, what enters and leaves the rings,
   and the run of the whole program to the values it ends with. -/
module

public import proofs.«01_k».proof.Proof.Step
public import Idealize.ShloMosaic.Lib.Pipeline.FrameSuffixV
public import Idealize.ShloMosaic.Lib.StableHlo.Run
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The windows -/

/-- The weights' window is the whole array at every point, -/
theorem block_w (c : Dev nD) (t : Fin cfg0.N) : iblk m c 0 t = (show Vec F S768x768 .f32 from V m c main_arg1) := by
  funext i
  unfold iblk
  show V m c main_arg1 _ = V m c main_arg1 _
  congr 1
  funext a
  apply Fin.ext
  have e0 : win0_0.index t 0 = 0 := rfl
  have e1 : win0_0.index t 1 = 0 := rfl
  fin_cases a <;> blk_simp <;> omega
/-- and so is the bias row's. -/
theorem block_b (c : Dev nD) (t : Fin cfg0.N) : iblk m c 1 t = (show Vec F S1x768 .f32 from V m c main_v1) := by
  funext i
  unfold iblk
  show V m c main_v1 _ = V m c main_v1 _
  congr 1
  funext a
  apply Fin.ext
  have e0 : win0_1.index t 0 = 0 := rfl
  have e1 : win0_1.index t 1 = 0 := rfl
  fin_cases a <;> blk_simp <;> omega

/-! ## The proof data -/

/-- The result: the rows' function of the arrays the region finds. -/
def goal (c : Dev nD) : BufOf (F := F) c yM := goalOf c (V m c main_v0) (V m c main_arg1) (V m c main_v1)

/-- Before each point: the ring of reads and the ring of writes. -/
def rings (c : Dev nD) (k : ℕ) : sProp 𝕄 := iprop(readRing c (V m c main_v0) k ∗ writeRing c (goal m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := rings m c t.val
  q _ := fullShare
  owed _ := 0

theorem array_at (c : Dev nD) (w : Fin cfg0.W) : (dats m 0 c).A w = V m c (Pipeline.arrRef spec0 w) := by dsimp only [dats]
theorem left_w (c : Dev nD) (t : Fin cfg0.N) : (dats m 0 c).after 0 t = iblk m c 0 t := by dsimp only [dats]
theorem left_b (c : Dev nD) (t : Fin cfg0.N) : (dats m 0 c).after 1 t = iblk m c 1 t := by dsimp only [dats]

/-- Each window's buffer holds its block when the body starts. -/
theorem held_w (c : Dev nD) (t : Fin cfg0.N) (d) : (dats m 0 c).before 0 t d = iblk m c 0 t :=
  ((dats m 0 c).before_in_eq_fetched 0 rfl (fun _ => rfl) (fun _ _ _ => rfl)
    (fun t => by rw [left_w]; unfold Dat.blockOf iblk; rw [array_at]; try rfl) t d).trans (by unfold Dat.fetched Dat.blockOf iblk; rw [array_at]; try rfl)
theorem held_b (c : Dev nD) (t : Fin cfg0.N) (d) : (dats m 0 c).before 1 t d = iblk m c 1 t :=
  ((dats m 0 c).before_in_eq_fetched 1 rfl (fun _ => rfl) (fun _ _ _ => rfl)
    (fun t => by rw [left_b]; unfold Dat.blockOf iblk; rw [array_at]; try rfl) t d).trans (by unfold Dat.fetched Dat.blockOf iblk; rw [array_at]; try rfl)

/-! ## The body's obligation -/

def entered (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def left (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem body_at (c : Dev nD) (t : Fin cfg0.N) :
    entered m c t ⊢ wp frame (wpE (defs₀ (F := F)) Variants.none c none) Set.univ (bodyAt0 t) (fun _ => left m c t) := by
  unfold entered left
  simp only [held_w, held_b, left_w, left_b, block_w, block_b]
  rw [show (dats m 0 c).Φ t.castSucc = rings m c t.val from rfl, show (dats m 0 c).Φ t.succ = rings m c (t.val + 1) from rfl]
  unfold Dat.owesAt Pipeline.owesWithin
  rw [show (dats m 0 c).owed t.castSucc = 0 from rfl, show (dats m 0 c).owed t.succ = 0 from rfl]
  unfold rings goal
  iintro ⟨⟨HR, HQ⟩, ⟨%S, -, HW⟩, ⟨%d0, H2⟩, ⟨%d1, H3⟩⟩
  iapply (step_at c t (st0_0 t) _ (st0_1 t) _ (V m c main_arg1) (V m c main_v1) (V m c main_v0) S _)
  isplitl [H2]; · iexact H2
  isplitl [H3]; · iexact H3
  isplitl [HR]; · iexact HR
  isplitl [HQ]; · iexact HQ
  isplitl [HW]; · iexact HW
  iintro ⟨H2, H3, HR, HQ, ⟨%S', HW⟩⟩
  isplitl [HR HQ]
  · isplitl [HR]; · iexact HR
    iexact HQ
  isplitl [HW]
  · iexists S'; isplitr; · ipureintro; exact fun _ _ => Or.inl trivial
    iexact HW
  isplitl [H2]; · iexact H2
  iexact H3

theorem row_of_body (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_of_body]
  exact triple_restated (body_at m c t) rfl .rfl fun _ => .rfl

/-! ## Into the rings and out of them -/

abbrev cellsOf : Fin 8 → SemLoc sig :=
  ![SemLoc.dma 2, SemLoc.dma 3, SemLoc.dma 4, SemLoc.dma 5, SemLoc.dma 6, SemLoc.dma 7, SemLoc.dma 8, SemLoc.dma 9]
theorem cells_facts : Pipeline.OwnSemFacts spec0 cellsOf := by decide
def readRefs : Finset (Ref sig .tc) := {main_v0}
def writtenRefs : Finset (Ref sig .tc) := {main_v2}
theorem read_sub : readRefs ⊆ Pipeline.restRefs sig spec0 := by decide
theorem written_sub : writtenRefs ⊆ Pipeline.restRefs sig spec0 \ readRefs := by decide

/-- What the launch hands over and takes back, piece by piece. -/
theorem handed (c : Dev nD) (G : (c : Dev nD) → (b : Ref sig .tc) → Buf (Elt F) ((c.tc : Thread nD τ).loc b)) :
    (Pipeline.ΦDRV cellsOf spec0 readRefs writtenRefs (V m) G c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (semVal ((c : Thread nD τ), SemLoc.dma 2) 0 ∗ semVal ((c : Thread nD τ), SemLoc.dma 3) 0 ∗ semVal ((c : Thread nD τ), SemLoc.dma 4) 0
            ∗ semVal ((c : Thread nD τ), SemLoc.dma 5) 0 ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0)
          ∗ (((c : Thread nD τ).loc main_v0) ↦{fullShare} V m c main_v0) ∗ (((c : Thread nD τ).loc main_v2) ↦{fullShare} G c main_v2)) := by
  unfold Pipeline.ΦDRV
  rw [scopedRest0_eq, Pipeline.ownSems0_eq_of_list c cellsOf [0, 1, 2, 3, 4, 5, 6, 7] (by decide) (by decide),
    BI.bigSep_eq_bigSepL_of_eq [main_v0] (by decide) (by decide), BI.bigSep_eq_bigSepL_of_eq [main_v2] (by decide) (by decide)]
  rfl

theorem enter (c : Dev nD) : Pipeline.ΦDRV cellsOf spec0 readRefs writtenRefs (V m) (V m) c ⊢ (dats m 0 c).Φ 0 := by
  rw [handed, show (dats m 0 c).Φ 0 = rings m c 0 from rfl]
  unfold rings
  iintro ⟨⟨HA, HB⟩, ⟨H2, H3, H4, H5, H6, H7, H8, H9⟩, HX, HY⟩
  isplitl [HA H2 H3 H4 H5 HX]
  · iapply (read_in (F := F) c (V m c main_v0))
    isplitl [HA]; · iexact HA
    isplitl [H2 H3 H4 H5]
    · unfold inZero
      isplitl [H2]; · iexact H2
      isplitl [H3]; · iexact H3
      isplitl [H4]; · iexact H4
      iexact H5
    iexact HX
  iapply (write_in (F := F) c (goal m c) (V m c main_v2))
  isplitl [HB]; · iexact HB
  isplitl [H6 H7 H8 H9]
  · unfold outZero
    isplitl [H6]; · iexact H6
    isplitl [H7]; · iexact H7
    isplitl [H8]; · iexact H8
    iexact H9
  iexact HY

/-- What the written buffer ends with: the result (read at no other buffer). -/
def ends (c : Dev nD) (b : Ref sig .tc) : Buf (Elt F) ((c.tc : Thread nD τ).loc b) :=
  Function.update (V m c) main_v2 (goal m c) b
theorem ends_v2 (c : Dev nD) : ends m c main_v2 = goal m c := by unfold ends; exact Function.update_self ..

theorem leave (c : Dev nD) : (dats m 0 c).Φ (Fin.last cfg0.N) ⊢ Pipeline.ΦDRV cellsOf spec0 readRefs writtenRefs (V m) (ends m) c := by
  rw [handed, ends_v2, show (dats m 0 c).Φ (Fin.last cfg0.N) = rings m c 8 from rfl]
  unfold rings
  iintro ⟨HR, HQ⟩
  ihave HR' := (read_out (F := F) c (V m c main_v0)) $$ HR
  ihave HQ' := (write_out (F := F) c (goal m c)) $$ HQ
  unfold inZero outZero
  icases HR' with ⟨HA, ⟨H2, H3, H4, H5⟩, HX⟩
  icases HQ' with ⟨HB, ⟨H6, H7, H8, H9⟩, HY⟩
  isplitl [HA HB]
  · isplitl [HA]; · iexact HA
    iexact HB
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HX]; · iexact HX
  iexact HY

/-! ## The run -/

theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
set_option maxHeartbeats 800000 in
theorem run_raw : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (Pipeline.withArrays spec0 c (Pipeline.withR (V0 m c) writtenRefs c (ends m c)) fun w => (dats m 0 c).arrAt w cfg0.N) (Proc.devRef .tc b))
      ∧ r.2.sem = fun _ => 0) :=
  Pipeline.θ_run_frame_dmaR_aroundV (Q' := _) cfgs (dats m) (0 : Fin 1) launch0 cellsOf defs₀ Variants.none cells_facts readRefs writtenRefs read_sub written_sub m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (G := ends m) (hmain := main_around m Variants.none) (hA := array_at m) (hin := enter m) (hout := leave m)
    (hQ' := fun _ h => h)

/-! ## What the run ends with -/

/-- The rows' array as the region finds it: the first argument, its two leading axes joined. -/
theorem rows_eq (c : Dev nD) : V m c main_v0 = shapeCast S16384x768 (m ((c : Thread nD τ).loc main_arg0)) shapeCasts_S4x4096x768_S16384x768 := by
  unfold V V0; simp only [hostOps0, List.flatten_cons, List.flatten_nil, List.append_nil]; after_results_simp <;> rfl
/-- The bias row: the third argument as one row. -/
theorem bias_eq (c : Dev nD) : V m c main_v1 = shapeCast S1x768 (m ((c : Thread nD τ).loc main_arg2)) shapeCasts_S768_S1x768 := by
  unfold V V0; simp only [hostOps0, List.flatten_cons, List.flatten_nil, List.append_nil]; after_results_simp <;> rfl

/-- The kernel's result over the arguments' contents. -/
def result (a0 : Vec F S4x4096x768 .f32) (a1 : Vec F S768x768 .f32) (a2 : Vec F S768 .f32) : Vec F S4x4096x768 .f32 :=
  shapeCast S4x4096x768 (wanted (shapeCast S16384x768 a0 shapeCasts_S4x4096x768_S16384x768) a1 (shapeCast S1x768 a2 shapeCasts_S768_S1x768)) shapeCasts_S16384x768_S4x4096x768

/-- A buffer no host line after the region writes, that is no window's array and not the written one, ends as the region found it. -/
theorem kept (c : Dev nD) (A : (w : Fin cfg0.W) → Buf (Elt F) ((spec0 w).arr.view.loc (c.tc : Thread nD τ))) (b : Ref sig .tc)
    (h3 : b ≠ main_v3) (h2 : b ∉ writtenRefs) (ha : ∀ w, Pipeline.arrRef spec0 w ≠ b) :
    StableHlo.after (List.flatten [hostOps1]) (Pipeline.withArrays spec0 c (Pipeline.withR (V0 m c) writtenRefs c (ends m c)) A) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h3)),
    Pipeline.withArrays_of_ne _ c _ _ b ha, Pipeline.withR_of_not_mem _ _ c _ b h2]

/-- The run: every argument kept, the result as above, every counter back at zero. -/
theorem run_values : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v3) = result (m ((c.tc : Thread nD τ).loc main_arg0)) (m ((c.tc : Thread nD τ).loc main_arg1)) (m ((c.tc : Thread nD τ).loc main_arg2)))
      ∧ r.2.sem = fun _ => 0) :=
  (θ_run defs _ _).mono (fun r h => ⟨fun c => by
    obtain ⟨h, -⟩ := h
    obtain ⟨ha, hb⟩ := h c
    refine ⟨⟨?_, ?_, ?_⟩, ?_⟩
    · rw [hb main_arg0 (Pipeline.mem_restRefs_of main_arg0 (by decide) (by decide)), kept m c _ main_arg0 (by decide) (by decide) (by decide), V_main_arg0]
    · exact (ha 0).trans (((dats m 0 c).arrAt_in 0 rfl _).trans ((array_at m c 0).trans (V_main_arg1 m c)))
    · rw [hb main_arg2 (Pipeline.mem_restRefs_of main_arg2 (by decide) (by decide)), kept m c _ main_arg2 (by decide) (by decide) (by decide), V_main_arg2]
    · rw [hb main_v3 (Pipeline.mem_restRefs_of main_v3 (by decide) (by decide))]
      have e : Pipeline.withArrays spec0 c (Pipeline.withR (V0 m c) writtenRefs c (ends m c)) (fun w => (dats m 0 c).arrAt w cfg0.N) (Proc.devRef .tc main_v2) = goal m c := by
        rw [Pipeline.withArrays_of_ne _ c _ _ main_v2 (by decide), Pipeline.withR_of_mem _ _ c _ main_v2 (by decide), ends_v2]
      generalize Pipeline.withArrays spec0 c (Pipeline.withR (V0 m c) writtenRefs c (ends m c)) (fun w => (dats m 0 c).arrAt w cfg0.N) = X at e ⊢
      have e' : StableHlo.after (List.flatten [hostOps1]) X (Proc.devRef .tc main_v3) = shapeCast S4x4096x768 (X (Proc.devRef .tc main_v2)) shapeCasts_S16384x768_S4x4096x768 := by
        simp only [hostOps1, List.flatten_cons, List.flatten_nil, List.append_nil]; after_results_simp <;> rfl
      rw [e', e]
      unfold goal result goalOf
      rw [rows_eq, bias_eq, V_main_arg1], h.2⟩) (run_raw m ρ)

/-- The run without the result. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).1, h.2⟩) (run_values m ρ)

end Cert.KernelIdeal.Hand

end
-- ==== Proof.Take.lean ====
/- What the reference's row lookup reads: entry `n` of a table of row numbers in range names the row. -/
module

public import proofs.«01_k».proof.Proof.Gen.ReferenceIdeal
public import Idealize.ShloMosaic.Lib.Pointwise
public import Idealize.ShloMosaic.Lib.WordCmp

@[expose] public section

set_option maxRecDepth 16384

noncomputable section

namespace Cert.ReferenceIdeal.Take

open Cert.ReferenceIdeal Cert.ReferenceIdeal.Gen Idealize.ShloMosaic Idealize.ShloMosaic.TcCoe Idealize.SL.Sem

variable {F : FTy → Type} [FloatOps F]

/-- The table as the lookup uses it: a negative number counts from the end. -/
def wrapped (l : Fin 4096 → BitVec 32) : IVec S4096x1 32 :=
  broadcastInDim S4096x1 ![0] bcast_S4096_S4096x1_0 (select (cmpi .slt (fun i => l (S4096.rowMajor i)) (broadcastInDim S4096 ![] bcast_S_S4096 (constantI S_ 32 0#32))) (addi (fun i => l (S4096.rowMajor i)) (broadcastInDim S4096 ![] bcast_S_S4096 (constantI S_ 32 4096#32))) (fun i => l (S4096.rowMajor i)))

/-- Which entries name a row. -/
def inRange (w : IVec S4096x1 32) : IVec S4096 1 :=
  Host.reduce IntOp.andi (andi (cmpi .sge w (broadcastInDim S4096x1 ![] bcast_S_S4096x1 (constantI S_ 32 0#32))) (cmpi .sle w (broadcastInDim S4096x1 ![0, 1] bcast_S1x1_S4096x1_0_1 (broadcastInDim S1x1 ![1] bcast_S1_S1x1_1 (constantI S1 32 4095#32))))) (constantI S_ 1 1#1) reducesTo_S4096x1_S4096_d1 h_S_

/-- The lookup: rows named by the table, a filler where an entry names none. -/
def look (l : Fin 4096 → BitVec 32) (x : FVec F S4x4096x768 .f32) : FVec F S4x4096x768 .f32 :=
  select (broadcastInDim S4x4096x768 ![1] bcast_S4096_S4x4096x768_1 (inRange (wrapped l))) (Host.gather gather_S4x4096x768_S4096x1_S4x4096x768_02_1_n_n_1_1_41768 x (wrapped l)) (broadcastInDim S4x4096x768 ![] bcast_S_S4x4096x768 (constant S_ .f32 0x7FC00000#32))

/-- A word below 4096 is itself as a signed number. -/
theorem word_signed (w : BitVec 32) (h : w.toNat < 4096) : w.toInt = w.toNat := by
  rw [BitVec.toInt_eq_toNat_cond]; split <;> omega

/-- The linear position of an index of a vector is its coordinate. -/
theorem pos_at (n : Fin 4096) : S4096.rowMajor (ix1 n) = n :=
  Fin.ext (Shape.rowMajor_val_one (ix1 n))

/-- An entry in range is used as it stands, -/
theorem wrapped_at (l : Fin 4096 → BitVec 32) (n : Fin 4096) (h : (l n).toNat < 4096) : wrapped l (ix2 n (0 : Fin 1)) = l n := by
  pointwise [wrapped]
  rw [pos_at]
  have e : IntOp.cmpi CmpIPredicate.slt (l n) 0#32 = 0#1 := by
    have := word_signed _ h
    have n0 : ¬ ((l n).toNat : Int) < 0 := by omega
    simp [IntOp.cmpi, BitVec.slt, this, n0]
  rw [e]; rfl

/-- passes the range test, -/
theorem inRange_at (w : IVec S4096x1 32) (n : Fin 4096) (h : (w (ix2 n (0 : Fin 1))).toNat < 4096) : inRange w (ix1 n) = 1#1 := by
  pointwise [inRange]
  have e : IntOp.andi (IntOp.cmpi .sge (w (ix2 n (0 : Fin 1))) 0#32) (IntOp.cmpi .sle (w (ix2 n (0 : Fin 1))) 4095#32) = 1#1 := by
    word_cmp
  rw [Finset.univ_unique, Finset.fold_singleton]
  show IntOp.andi (IntOp.andi (IntOp.cmpi .sge (w (ix2 n (0 : Fin 1))) 0#32) (IntOp.cmpi .sle (w (ix2 n (0 : Fin 1))) 4095#32)) 1#1 = 1#1
  rw [e]; rfl

/-- and is the row the lookup reads. -/
theorem gather_at (x : FVec F S4x4096x768 .f32) (w : IVec S4096x1 32) (b : Fin 4) (n : Fin 4096) (j : Fin 768) (h : (w (ix2 n (0 : Fin 1))).toNat < 4096) :
    Host.gather gather_S4x4096x768_S4096x1_S4x4096x768_02_1_n_n_1_1_41768 x w (ix3 b n j) = x (ix3 b ⟨(w (ix2 n (0 : Fin 1))).toNat, h⟩ j) := by
  have hi : gather_S4x4096x768_S4096x1_S4x4096x768_02_1_n_n_1_1_41768.siIdx (ix3 b n j) ⟨0, by decide⟩ = ix2 n (0 : Fin 1) := by
    funext a
    match a with
    | ⟨0, _⟩ => rfl
    | ⟨1, _⟩ => rfl
  unfold Host.gather
  congr 1
  funext a
  match a with
  | ⟨0, _⟩ => exact Fin.ext (Nat.zero_add _)
  | ⟨1, _⟩ =>
    refine Fin.ext ?_
    show min (w (gather_S4x4096x768_S4096x1_S4x4096x768_02_1_n_n_1_1_41768.siIdx (ix3 b n j) ⟨0, _⟩)).toInt.toNat 4095 + 0 + 0 = (w (ix2 n (0 : Fin 1))).toNat
    rw [hi, word_signed _ h]; omega
  | ⟨2, _⟩ => exact Fin.ext (Nat.zero_add _)

/-- The lookup at a row whose table entry is in range. -/
theorem look_at (l : Fin 4096 → BitVec 32) (x : FVec F S4x4096x768 .f32) (b : Fin 4) (n : Fin 4096) (j : Fin 768) (h : (l n).toNat < 4096) :
    look l x (ix3 b n j) = x (ix3 b ⟨(l n).toNat, h⟩ j) := by
  have e := wrapped_at l n h
  have h' : (wrapped l (ix2 n (0 : Fin 1))).toNat < 4096 := by rw [e]; exact h
  pointwise [look]
  rw [inRange_at _ _ h', gather_at _ _ _ _ _ h']
  simp only [e]
  rfl

end Cert.ReferenceIdeal.Take

end
-- ==== Proof.Perm.lean ====
/- The two tables of row numbers the reference holds: each is in range, and the first undoes the second. -/
module

public import proofs.«01_k».proof.Proof.Gen.ReferenceIdeal

@[expose] public section

set_option maxRecDepth 16384

noncomputable section

namespace Cert.ReferenceIdeal.Perm

open Idealize.ShloMosaic

/-- Number `64 a + b` below 4096. -/
abbrev at_ (a b : Fin 64) : Fin 4096 := ⟨64 * a.val + b.val, by have := a.isLt; have := b.isLt; omega⟩

/-- The two range facts and the one on both tables, entry by entry. -/
theorem lt0 : ∀ a b : Fin 64, (lit0 (at_ a b)).toNat < 4096 := by decide +kernel
theorem lt1 : ∀ a b : Fin 64, (lit1 (at_ a b)).toNat < 4096 := by decide +kernel
theorem undo : ∀ a b : Fin 64, (lit0t (lit1t (64 * a.val + b.val)).toNat).toNat = 64 * a.val + b.val := by decide +kernel

/-- Every row number has that form. -/
theorem at_split (n : Fin 4096) : n = at_ ⟨n.val / 64, by have := n.isLt; omega⟩ ⟨n.val % 64, Nat.mod_lt _ (by decide)⟩ :=
  Fin.ext (by show n.val = 64 * (n.val / 64) + n.val % 64; omega)

/-- Every entry of both tables is a row number; -/
theorem lit0_lt (n : Fin 4096) : (lit0 n).toNat < 4096 := by rw [at_split n]; exact lt0 _ _
theorem lit1_lt (n : Fin 4096) : (lit1 n).toNat < 4096 := by rw [at_split n]; exact lt1 _ _

/-- and the row the second table names is sent back by the first. -/
theorem lit0_lit1 (n : Fin 4096) : (lit0 ⟨(lit1 n).toNat, lit1_lt n⟩).toNat = n.val := by
  have h := undo ⟨n.val / 64, by have := n.isLt; omega⟩ ⟨n.val % 64, Nat.mod_lt _ (by decide)⟩
  have e : 64 * (n.val / 64) + n.val % 64 = n.val := by omega
  simp only [e] at h
  exact h

end Cert.ReferenceIdeal.Perm

end
-- ==== Proof.Value.lean ====
/- The two results as one formula over the extended reals: `tanh (∑ k, x (b, n, k) * w (k, j) + bias j)` at `(b, n, j)`. -/
module

public import proofs.«01_k».proof.Proof.Launch
public import proofs.«01_k».proof.Proof.Take
public import proofs.«01_k».proof.Proof.Perm
public import proofs.«01_k».proof.Proof.Gen.ReferenceIdeal.Run
public import Idealize.ShloMosaic.Lib.Pointwise

@[expose] public section

set_option maxRecDepth 16384

noncomputable section

namespace Cert.Value

open Idealize.ShloMosaic Idealize.ShloMosaic.TcCoe Idealize.SL.Sem

/-- The formula. -/
def affine (x : FVec Ideal Cert.KernelIdeal.S4x4096x768 .f32) (w : FVec Ideal Cert.KernelIdeal.S768x768 .f32) (b : FVec Ideal Cert.KernelIdeal.S768 .f32)
    (p : Fin 4) (n : Fin 4096) (j : Fin 768) : EReal :=
  Ideal.tanh ((∑ k : Fin 768, x (ix3 p n k) * w (ix2 k j)) + b (ix1 j))

section Kernel
open Cert.KernelIdeal Cert.KernelIdeal.Gen Cert.KernelIdeal.Hand

/-- One block's rows, element by element. -/
theorem tile_at (x : FVec Ideal S2048x768 .f32) (w : FVec Ideal S768x768 .f32) (b : FVec Ideal S1x768 .f32) (r : Fin 2048) (j : Fin 768) :
    tileOf x w b (ix2 r j) = Ideal.tanh ((∑ k : Fin 768, x (ix2 r k) * w (ix2 k j)) + b (ix2 (0 : Fin 1) j)) := by
  pointwise [tileOf]

/-- Row `r` of block `u` is row `2048 u + r`. -/
theorem rows_at (x : FVec Ideal S16384x768 .f32) (u : Fin 8) (r : Fin 2048) (k : Fin 768) (q : Fin 16384) (hq : q.val = 2048 * u.val + r.val) :
    rowsOf x u (ix2 r k) = x (ix2 q k) := by
  obtain ⟨h0, h1⟩ := inBlock_emb u (ix2 r k)
  unfold rowsOf
  show x _ = x _
  congr 1
  funext a
  match a with
  | ⟨0, _⟩ => exact Fin.ext (h0.trans hq.symm)
  | ⟨1, _⟩ => exact Fin.ext h1

/-- The rows the kernel writes, element by element. -/
theorem wanted_at (x : FVec Ideal S16384x768 .f32) (w : FVec Ideal S768x768 .f32) (b : FVec Ideal S1x768 .f32) (q : Fin 16384) (j : Fin 768) :
    wanted x w b (ix2 q j) = Ideal.tanh ((∑ k : Fin 768, x (ix2 q k) * w (ix2 k j)) + b (ix2 (0 : Fin 1) j)) := by
  have hq := q.isLt
  have e : wanted x w b (ix2 q j) = tileOf (rowsOf x ⟨q.val / 2048, by omega⟩) w b (ix2 (⟨q.val % 2048, by omega⟩ : Fin 2048) j) := by
    unfold wanted
    congr 1
    funext a
    match a with
    | ⟨0, _⟩ => rfl
    | ⟨1, _⟩ => rfl
  rw [e, tile_at]
  simp only [rows_at x ⟨q.val / 2048, by omega⟩ ⟨q.val % 2048, by omega⟩ _ q (by show q.val = 2048 * (q.val / 2048) + q.val % 2048; omega)]

/-- The kernel's result is the formula: row `n` of batch `p` is row `4096 p + n` of the flattened rows. -/
theorem result_at (x : FVec Ideal S4x4096x768 .f32) (w : FVec Ideal S768x768 .f32) (b : FVec Ideal S768 .f32) (p : Fin 4) (n : Fin 4096) (j : Fin 768) :
    result (F := Ideal) x w b (ix3 p n j) = affine x w b p n j := by
  have hn := n.isLt
  pointwise [result, affine]
  rw [wanted_at]
  pointwise

end Kernel

section Reference
open Cert.ReferenceIdeal Cert.ReferenceIdeal.Gen Cert.ReferenceIdeal.Take Cert.ReferenceIdeal.Perm

/-- The reference's result: look up, the affine map and `tanh`, look up again. -/
def refResult (x : FVec Ideal S4x4096x768 .f32) (w : FVec Ideal S768x768 .f32) (b : FVec Ideal S768 .f32) : FVec Ideal S4x4096x768 .f32 :=
  look lit1 (Host.tanh (addf (Host.dotGeneral dot_S4x4096x768_S768x768_S4x4096x768_2_0_01_1_n_n none (look lit0 x) w)
    (broadcastInDim S4x4096x768 ![0, 1, 2] bcast_S1x1x768_S4x4096x768_0_1_2 (broadcastInDim S1x1x768 ![2] bcast_S768_S1x1x768_2 b))))

/-- The reference's result is the formula: the two lookups undo one another. -/
theorem ref_at (x : FVec Ideal S4x4096x768 .f32) (w : FVec Ideal S768x768 .f32) (b : FVec Ideal S768 .f32) (p : Fin 4) (n : Fin 4096) (j : Fin 768) :
    refResult x w b (ix3 p n j) = affine x w b p n j := by
  have hn : (⟨(lit0 ⟨(lit1 n).toNat, lit1_lt n⟩).toNat, lit0_lt _⟩ : Fin 4096) = n := Fin.ext (lit0_lit1 n)
  unfold refResult
  rw [look_at _ _ _ _ _ (lit1_lt n)]
  pointwise [affine]
  simp only [look_at _ _ _ _ _ (lit0_lt _), hn]

/-- That is what the reference ends with. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = refResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Reference

/-- The two results are the same array. -/
theorem results_eq (x : FVec Ideal Cert.KernelIdeal.S4x4096x768 .f32) (w : FVec Ideal Cert.KernelIdeal.S768x768 .f32) (b : FVec Ideal Cert.KernelIdeal.S768 .f32) :
    refResult x w b = Cert.KernelIdeal.Hand.result (F := Ideal) x w b := by
  funext i
  idx_vars i
  exact (ref_at x w b _ _ _).trans (result_at x w b _ _ _).symm

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Transport
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, on the device's words. -/
theorem kernel_frame : quiescent_Kernel (hKernel := Cert.Kernel.Gen.facts) := by
  intro m g _
  have h := Cert.KernelIdeal.Hand.run_kept (F := Bits) m g
  unfold θ_run at h ⊢
  rw [Cert.Transport.table, Cert.Transport.mains]
  exact h

/-- The kernel, over the extended reals. -/
theorem ideal_frame : quiescent_KernelIdeal (hKernelIdeal := Cert.KernelIdeal.Gen.facts) :=
  fun m g _ => Cert.KernelIdeal.Hand.run_kept m g

/-- The reference keeps its arguments and has no counters. -/
theorem reference_frame : quiescent_ReferenceIdeal (hReferenceIdeal := Cert.ReferenceIdeal.Gen.facts) :=
  fun m g _ => (θ_run _ _ _).mono (fun r h => ⟨fun c => (h c).2, sem_eq_zero_of_no_sems rfl r.2⟩) (Cert.Value.ref_run m g)

/-- The kernel's result is the reference's. -/
theorem values : algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.result (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run _ _ _).mono (fun r h c => ⟨(h.1 c).2, (h.1 c).1⟩) (Cert.KernelIdeal.Hand.run_values m g)
  · refine (θ_run _ _ _).mono (fun r h c => ⟨?_, (h c).2⟩) (Cert.Value.ref_run m' g')
    obtain ⟨h0, h1, h2⟩ := hm c
    rw [(h c).1, h0, h1, h2]
    exact Cert.Value.results_eq _ _ _

/-- All the claims. -/
theorem claim : Cert.Claim := ⟨Cert.Kernel.Gen.facts, Cert.KernelIdeal.Gen.facts, Cert.ReferenceIdeal.Gen.facts,
  kernel_frame, ideal_frame, reference_frame, trivial, values⟩

end Cert.Proof

end
